-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_out [hPre_finite_out : Cert.Pre_finite_out.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_finite_out [hPre_finite_out : Cert.Pre_finite_out.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_finite_out.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjIdeal_pre_finite_out [hOutProjIdeal : Cert.OutProjIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_out m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_OutRefIdeal_pre_finite_out [hOutRefIdeal : Cert.OutRefIdeal.Facts] [hPre_finite_out : Cert.Pre_finite_out.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_finite_out m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10))
      ∧ r.2.sem = fun _ => 0)

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v5) = v0 c
          ∧ r.2.mem ((c.tc : Thread Cert.PrepRefIdeal.nD Cert.PrepRefIdeal.τ).loc Cert.PrepRefIdeal.main_v9) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v19) = v0 c
          ∧ r.2.mem ((c.tc : Thread Cert.InRefIdeal.nD Cert.InRefIdeal.τ).loc Cert.InRefIdeal.main_v20) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_OutProj_OutProjIdeal : Prop :=
  True

def algebraic_OutProjIdeal_OutRefIdeal_pre_finite_out [hOutProjIdeal : Cert.OutProjIdeal.Facts] [hOutRefIdeal : Cert.OutRefIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal_finite_out m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v52) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mixer_MixerIdeal : Prop :=
  True

def holds_MixerIdeal_copies_exact [hMixerIdeal : Cert.MixerIdeal.Facts] [hPost_copies_exact : Cert.Post_copies_exact.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => ∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ (Cert.Post_copies_exact.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (r.2.mem ((c.tc : Thread Cert.MixerIdeal.nD Cert.MixerIdeal.τ).loc Cert.MixerIdeal.main_v17_0)) (r.2.mem ((c.tc : Thread Cert.MixerIdeal.nD Cert.MixerIdeal.τ).loc Cert.MixerIdeal.main_v17_1)) (r.2.mem ((c.tc : Thread Cert.MixerIdeal.nD Cert.MixerIdeal.τ).loc Cert.MixerIdeal.main_v17_2)) (r.2.mem ((c.tc : Thread Cert.MixerIdeal.nD Cert.MixerIdeal.τ).loc Cert.MixerIdeal.main_v17_3)) (r.2.mem ((c.tc : Thread Cert.MixerIdeal.nD Cert.MixerIdeal.τ).loc Cert.MixerIdeal.main_v17_4))).1 = (fun _ => 1#1)
      ∧ (Cert.Post_copies_exact.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (r.2.mem ((c.tc : Thread Cert.MixerIdeal.nD Cert.MixerIdeal.τ).loc Cert.MixerIdeal.main_v17_0)) (r.2.mem ((c.tc : Thread Cert.MixerIdeal.nD Cert.MixerIdeal.τ).loc Cert.MixerIdeal.main_v17_1)) (r.2.mem ((c.tc : Thread Cert.MixerIdeal.nD Cert.MixerIdeal.τ).loc Cert.MixerIdeal.main_v17_2)) (r.2.mem ((c.tc : Thread Cert.MixerIdeal.nD Cert.MixerIdeal.τ).loc Cert.MixerIdeal.main_v17_3)) (r.2.mem ((c.tc : Thread Cert.MixerIdeal.nD Cert.MixerIdeal.τ).loc Cert.MixerIdeal.main_v17_4))).2.1 = (fun _ => 1#1)
      ∧ (Cert.Post_copies_exact.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (r.2.mem ((c.tc : Thread Cert.MixerIdeal.nD Cert.MixerIdeal.τ).loc Cert.MixerIdeal.main_v17_0)) (r.2.mem ((c.tc : Thread Cert.MixerIdeal.nD Cert.MixerIdeal.τ).loc Cert.MixerIdeal.main_v17_1)) (r.2.mem ((c.tc : Thread Cert.MixerIdeal.nD Cert.MixerIdeal.τ).loc Cert.MixerIdeal.main_v17_2)) (r.2.mem ((c.tc : Thread Cert.MixerIdeal.nD Cert.MixerIdeal.τ).loc Cert.MixerIdeal.main_v17_3)) (r.2.mem ((c.tc : Thread Cert.MixerIdeal.nD Cert.MixerIdeal.τ).loc Cert.MixerIdeal.main_v17_4))).2.2.1 = (fun _ => 1#1)
      ∧ (Cert.Post_copies_exact.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (r.2.mem ((c.tc : Thread Cert.MixerIdeal.nD Cert.MixerIdeal.τ).loc Cert.MixerIdeal.main_v17_0)) (r.2.mem ((c.tc : Thread Cert.MixerIdeal.nD Cert.MixerIdeal.τ).loc Cert.MixerIdeal.main_v17_1)) (r.2.mem ((c.tc : Thread Cert.MixerIdeal.nD Cert.MixerIdeal.τ).loc Cert.MixerIdeal.main_v17_2)) (r.2.mem ((c.tc : Thread Cert.MixerIdeal.nD Cert.MixerIdeal.τ).loc Cert.MixerIdeal.main_v17_3)) (r.2.mem ((c.tc : Thread Cert.MixerIdeal.nD Cert.MixerIdeal.τ).loc Cert.MixerIdeal.main_v17_4))).2.2.2 = (fun _ => 1#1))

def Claim : Prop :=
  ∃ (hPrep : Cert.Prep.Facts) (hPrepIdeal : Cert.PrepIdeal.Facts) (hPrepRefIdeal : Cert.PrepRefIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hFfn : Cert.Ffn.Facts) (hFfnIdeal : Cert.FfnIdeal.Facts) (hFfnRefIdeal : Cert.FfnRefIdeal.Facts) (hMixer : Cert.Mixer.Facts) (hMixerIdeal : Cert.MixerIdeal.Facts) (hPre_finite_out : Cert.Pre_finite_out.Facts) (hPre_finite_ffn : Cert.Pre_finite_ffn.Facts) (hPost_copies_exact : Cert.Post_copies_exact.Facts),
    quiescent_Prep (hPrep := hPrep)
    ∧ quiescent_PrepIdeal (hPrepIdeal := hPrepIdeal)
    ∧ quiescent_PrepRefIdeal (hPrepRefIdeal := hPrepRefIdeal)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutProjIdeal_pre_finite_out (hOutProjIdeal := hOutProjIdeal) (hPre_finite_out := hPre_finite_out)
    ∧ quiescent_OutRefIdeal (hOutRefIdeal := hOutRefIdeal)
    ∧ quiescent_OutRefIdeal_pre_finite_out (hOutRefIdeal := hOutRefIdeal) (hPre_finite_out := hPre_finite_out)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Mixer (hMixer := hMixer)
    ∧ quiescent_MixerIdeal (hMixerIdeal := hMixerIdeal)
    ∧ preserves_Prep_PrepIdeal
    ∧ algebraic_PrepIdeal_PrepRefIdeal (hPrepIdeal := hPrepIdeal) (hPrepRefIdeal := hPrepRefIdeal)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal_pre_finite_out (hOutProjIdeal := hOutProjIdeal) (hOutRefIdeal := hOutRefIdeal) (hPre_finite_out := hPre_finite_out)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Mixer_MixerIdeal
    ∧ holds_MixerIdeal_copies_exact (hMixerIdeal := hMixerIdeal) (hPost_copies_exact := hPost_copies_exact)
-- ==== Post_copies_exact.lean ====
abbrev S16384x12288 : Shape := ⟨2, ![16384, 12288]⟩
abbrev S16384x128 : Shape := ⟨2, ![16384, 128]⟩
abbrev S1x4x4096 : Shape := ⟨3, ![1, 4, 4096]⟩
abbrev S1x4096 : Shape := ⟨2, ![1, 4096]⟩
abbrev S1x32 : Shape := ⟨2, ![1, 32]⟩
abbrev S1x4096x2048 : Shape := ⟨3, ![1, 4096, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S4096x2048 : Shape := ⟨2, ![4096, 2048]⟩
abbrev S2048x5632 : Shape := ⟨2, ![2048, 5632]⟩
abbrev S5632x2048 : Shape := ⟨2, ![5632, 2048]⟩

class Facts : Prop where
  shapeCasts_S1x4096x2048_S4096x2048 : S1x4096x2048.ShapeCasts S4096x2048
  bitsLt_bf16_f32 : FTy.bits .bf16 < FTy.bits .f32
  shapeCasts_S1x2048x5632_S2048x5632 : S1x2048x5632.ShapeCasts S2048x5632
  shapeCasts_S1x5632x2048_S5632x2048 : S1x5632x2048.ShapeCasts S5632x2048

variable [Facts]

def fn {F : FTy → Type} [FloatOps F] (main_arg0 : FVec F S16384x12288 .bf16) (main_arg1 : FVec F S16384x128 .f32) (main_arg2 : FVec F S1x4x4096 .f32) (main_arg3 : FVec F S1x4096 .f32) (main_arg4 : FVec F S1x32 .f32) (main_arg5 : FVec F S1x32 .f32) (main_arg6 : FVec F S1x32 .f32) (main_arg7 : FVec F S1x4096x2048 .f32) (main_arg8 : FVec F S1x2048x5632 .f32) (main_arg9 : FVec F S1x2048x5632 .f32) (main_arg10 : FVec F S1x5632x2048 .f32) (main_arg11 : FVec F S16384x2048 .bf16) (main_arg12 : FVec F S4096x2048 .bf16) (main_arg13 : FVec F S2048x5632 .bf16) (main_arg14 : FVec F S2048x5632 .bf16) (main_arg15 : FVec F S5632x2048 .bf16) : IVec S4096x2048 1 × IVec S2048x5632 1 × IVec S2048x5632 1 × IVec S5632x2048 1 :=
  let main_v0 : FVec F S4096x2048 .f32 := shapeCast S4096x2048 main_arg7 shapeCasts_S1x4096x2048_S4096x2048
  let main_v1 : FVec F S4096x2048 .bf16 := (truncf .bf16 · bitsLt_bf16_f32) main_v0
  let main_v2 : IVec S4096x2048 1 := cmpf .oeq main_arg12 main_v1
  let main_v3 : FVec F S2048x5632 .f32 := shapeCast S2048x5632 main_arg8 shapeCasts_S1x2048x5632_S2048x5632
  let main_v4 : FVec F S2048x5632 .bf16 := (truncf .bf16 · bitsLt_bf16_f32) main_v3
  let main_v5 : IVec S2048x5632 1 := cmpf .oeq main_arg13 main_v4
  let main_v6 : FVec F S2048x5632 .f32 := shapeCast S2048x5632 main_arg9 shapeCasts_S1x2048x5632_S2048x5632
  let main_v7 : FVec F S2048x5632 .bf16 := (truncf .bf16 · bitsLt_bf16_f32) main_v6
  let main_v8 : IVec S2048x5632 1 := cmpf .oeq main_arg14 main_v7
  let main_v9 : FVec F S5632x2048 .f32 := shapeCast S5632x2048 main_arg10 shapeCasts_S1x5632x2048_S5632x2048
  let main_v10 : FVec F S5632x2048 .bf16 := (truncf .bf16 · bitsLt_bf16_f32) main_v9
  let main_v11 : IVec S5632x2048 1 := cmpf .oeq main_arg15 main_v10
  (main_v2, main_v5, main_v8, main_v11)
-- ==== Pre_finite_ffn.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x5632 : S_.BroadcastsInDim S1x2048x5632 (![] : Fin 0 → Fin S1x2048x5632.rank)
  reducesTo_S1x2048x5632_S_d0_1_2 : S1x2048x5632.ReducesTo [0, 1, 2] S_

variable [Facts]

def fn {F : FTy → Type} [FloatOps F] (main_arg0 : FVec F S4x4096x2048 .f32) (main_arg1 : FVec F S1x2048 .f32) (main_arg2 : FVec F S1x2048x5632 .f32) (main_arg3 : FVec F S1x2048x5632 .f32) (main_arg4 : FVec F S1x5632x2048 .f32) (main_arg5 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x5632 .f32 := Host.absf main_arg2
  let main_cst_2 : FVec F S_ .f32 := constant S_ .f32 0x7F800000#32
  let main_v10 : FVec F S1x2048x5632 .f32 := broadcastInDim S1x2048x5632 ![] bcast_S_S1x2048x5632 main_cst_2
  let main_v11 : IVec S1x2048x5632 1 := cmpf .olt main_v9 main_v10
  let main_c_3 : IVec S_ 1 := constantI S_ 1 1#1
  let main_v12 : IVec S_ 1 := (fun x v => Host.reduce IntOp.andi x v reducesTo_S1x2048x5632_S_d0_1_2 h_S_) main_v11 main_c_3
  let main_v13 : IVec S_ 1 := andi main_v8 main_v12
  main_v13
-- ==== Pre_finite_out.lean ====
abbrev S16384x2048 : Shape := ⟨2, ![16384, 2048]⟩
abbrev S16384x12288 : Shape := ⟨2, ![16384, 12288]⟩
abbrev S1x2048 : Shape := ⟨2, ![1, 2048]⟩
abbrev S1x3x2048 : Shape := ⟨3, ![1, 3, 2048]⟩
abbrev S1x4096x2048 : Shape := ⟨3, ![1, 4096, 2048]⟩
abbrev S4x4096x2048 : Shape := ⟨3, ![4, 4096, 2048]⟩
abbrev S_ : Shape := ⟨0, ![]⟩

class Facts : Prop where
  bitsLt_bf16_f32 : FTy.bits .bf16 < FTy.bits .f32
  bcast_S_S16384x12288 : S_.BroadcastsInDim S16384x12288 (![] : Fin 0 → Fin S16384x12288.rank)
  reducesTo_S16384x12288_S_d0_1 : S16384x12288.ReducesTo [0, 1] S_
  h_S_ : 0 < S_.numel

variable [Facts]

def fn {F : FTy → Type} [FloatOps F] (main_arg0 : FVec F S16384x2048 .bf16) (main_arg1 : FVec F S16384x12288 .bf16) (main_arg2 : FVec F S1x2048 .f32) (main_arg3 : FVec F S1x3x2048 .f32) (main_arg4 : FVec F S1x4096x2048 .f32) (main_arg5 : FVec F S4x4096x2048 .f32) : IVec S_ 1 :=
  let main_v0 : FVec F S16384x12288 .f32 := (extf .f32 · bitsLt_bf16_f32) main_arg1
  let main_v1 : FVec F S16384x12288 .f32 := Host.absf main_v0
  let main_cst : FVec F S_ .f32 := constant S_ .f32 0x7F800000#32
  let main_v2 : FVec F S16384x12288 .f32 := broadcastInDim S16384x12288 ![] bcast_S_S16384x12288 main_cst
  let main_v3 : IVec S16384x12288 1 := cmpf .olt main_v1 main_v2
  let main_c : IVec S_ 1 := constantI S_ 1 1#1
  let main_v4 : IVec S_ 1 := (fun x v => Host.reduce IntOp.andi x v reducesTo_S16384x12288_S_d0_1 h_S_) main_v3 main_c
  main_v4
-- ==== Prep.lean ====
abbrev S1x2048x12320 : Shape := ⟨3, ![1, 2048, 12320]⟩
abbrev S2048x12320 : Shape := ⟨2, ![2048, 12320]⟩
abbrev S12320x2048 : Shape := ⟨2, ![12320, 2048]⟩
abbrev S12288x2048 : Shape := ⟨2, ![12288, 2048]⟩
abbrev S128x2048 : Shape := ⟨2, ![128, 2048]⟩
abbrev S512x2048 : Shape := ⟨2, ![512, 2048]⟩
abbrev S32x2048 : Shape := ⟨2, ![32, 2048]⟩
abbrev S480x2048 : Shape := ⟨2, ![480, 2048]⟩
abbrev S96x2048 : Shape := ⟨2, ![96, 2048]⟩

abbrev nBuf : Space → Nat
  | .hbm => 5
  | .vmem => 7
  | .smem => 0
  | _ => 0

abbrev bufTy : (tb : Table) → Fin (tcTables nBuf tb) → BufTy
  | .hbm, ⟨0, _⟩ => ⟨S1x2048x12320, .f32⟩
  | .hbm, ⟨1, _⟩ => ⟨S2048x12320, .f32⟩
  | .hbm, ⟨2, _⟩ => ⟨S12320x2048, .f32⟩
  | .hbm, ⟨3, _⟩ => ⟨S12288x2048, .bf16⟩
  | .hbm, ⟨4, _⟩ => ⟨S128x2048, .bf16⟩
  | .local _ .vmem, ⟨0, _⟩ => ⟨S512x2048, .f32⟩
  | .local _ .vmem, ⟨1, _⟩ => ⟨S512x2048, .f32⟩
  | .local _ .vmem, ⟨2, _⟩ => ⟨S32x2048, .f32⟩
  | .local _ .vmem, ⟨3, _⟩ => ⟨S32x2048, .f32⟩
  | .local _ .vmem, ⟨4, _⟩ => ⟨S512x2048, .bf16⟩
  | .local _ .vmem, ⟨5, _⟩ => ⟨S512x2048, .bf16⟩
  | .local _ .vmem, ⟨6, _⟩ => ⟨S128x2048, .bf16⟩
  | _, _ => ⟨S1x2048x12320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c12_i32_0 : BitVec 32 := 12#32
  let v3 : BitVec 1 := Scalar.cmpi .sge arg0 c12_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c12_i32_2 : BitVec 32 := 12#32
  let v6 : BitVec 1 := Scalar.cmpi .eq arg0 c12_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== PrepRefIdeal.lean ====
abbrev S1x2048x12320 : Shape := ⟨3, ![1, 2048, 12320]⟩
abbrev S2048x12320 : Shape := ⟨2, ![2048, 12320]⟩
abbrev S2048x6144 : Shape := ⟨2, ![2048, 6144]⟩
abbrev S2048x12288 : Shape := ⟨2, ![2048, 12288]⟩
abbrev S12288x2048 : Shape := ⟨2, ![12288, 2048]⟩
abbrev S2048x32 : Shape := ⟨2, ![2048, 32]⟩
abbrev S32x2048 : Shape := ⟨2, ![32, 2048]⟩
abbrev S_ : Shape := ⟨0, ![]⟩
abbrev S128x2048 : Shape := ⟨2, ![128, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x12320, .f32⟩
  | .hbm, ⟨1, _⟩ => ⟨S2048x12320, .f32⟩
  | .hbm, ⟨2, _⟩ => ⟨S2048x6144, .f32⟩
  | .hbm, ⟨3, _⟩ => ⟨S2048x6144, .f32⟩
  | .hbm, ⟨4, _⟩ => ⟨S2048x12288, .f32⟩
  | .hbm, ⟨5, _⟩ => ⟨S12288x2048, .f32⟩
  | .hbm, ⟨6, _⟩ => ⟨S12288x2048, .bf16⟩
  | .hbm, ⟨7, _⟩ => ⟨S2048x32, .f32⟩
  | .hbm, ⟨8, _⟩ => ⟨S32x2048, .f32⟩
  | .hbm, ⟨9, _⟩ => ⟨S_, .i32⟩
  | .hbm, ⟨10, _⟩ => ⟨S_, .f32⟩
  | .hbm, ⟨11, _⟩ => ⟨S128x2048, .f32⟩
  | .hbm, ⟨12, _⟩ => ⟨S128x2048, .bf16⟩
  | _, _ => ⟨S1x2048x12320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InProj.lean ====
abbrev S4x4096x2048 : Shape := ⟨3, ![4, 4096, 2048]⟩
abbrev S1x2048 : Shape := ⟨2, ![1, 2048]⟩
abbrev S12288x2048 : Shape := ⟨2, ![12288, 2048]⟩
abbrev S128x2048 : Shape := ⟨2, ![128, 2048]⟩
abbrev S16384x2048 : Shape := ⟨2, ![16384, 2048]⟩
abbrev S2048 : Shape := ⟨1, ![2048]⟩
abbrev S16384x12288 : Shape := ⟨2, ![16384, 12288]⟩
abbrev S16384x128 : Shape := ⟨2, ![16384, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S12288x2048, .bf16⟩
  | .hbm, ⟨3, _⟩ => ⟨S128x2048, .bf16⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S16384x12288, .bf16⟩
  | .hbm, ⟨8, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InRefIdeal.lean ====
abbrev S4x4096x2048 : Shape := ⟨3, ![4, 4096, 2048]⟩
abbrev S1x2048 : Shape := ⟨2, ![1, 2048]⟩
abbrev S12288x2048 : Shape := ⟨2, ![12288, 2048]⟩
abbrev S128x2048 : Shape := ⟨2, ![128, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x12288 : Shape := ⟨3, ![4, 4096, 12288]⟩
abbrev S4x4096x128 : Shape := ⟨3, ![4, 4096, 128]⟩
abbrev S16384x12288 : Shape := ⟨2, ![16384, 12288]⟩
abbrev S16384x128 : Shape := ⟨2, ![16384, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S12288x2048, .bf16⟩
  | .hbm, ⟨3, _⟩ => ⟨S128x2048, .bf16⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S12288x2048, .f32⟩
  | .hbm, ⟨22, _⟩ => ⟨S4x4096x12288, .f32⟩
  | .hbm, ⟨23, _⟩ => ⟨S128x2048, .f32⟩
  | .hbm, ⟨24, _⟩ => ⟨S4x4096x128, .f32⟩
  | .hbm, ⟨25, _⟩ => ⟨S16384x12288, .f32⟩
  | .hbm, ⟨26, _⟩ => ⟨S16384x12288, .bf16⟩
  | .hbm, ⟨27, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== OutProj.lean ====
abbrev S16384x2048 : Shape := ⟨2, ![16384, 2048]⟩
abbrev S16384x12288 : Shape := ⟨2, ![16384, 12288]⟩
abbrev S1x2048 : Shape := ⟨2, ![1, 2048]⟩
abbrev S1x3x2048 : Shape := ⟨3, ![1, 3, 2048]⟩
abbrev S1x4096x2048 : Shape := ⟨3, ![1, 4096, 2048]⟩
abbrev S4x4096x2048 : Shape := ⟨3, ![4, 4096, 2048]⟩
abbrev S2048 : Shape := ⟨1, ![2048]⟩
abbrev S3x2048 : Shape := ⟨2, ![3, 2048]⟩
abbrev S4096x2048 : Shape := ⟨2, ![4096, 2048]⟩
abbrev S512x2048 : Shape := ⟨2, ![512, 2048]⟩
abbrev S8x2048 : Shape := ⟨2, ![8, 2048]⟩
abbrev S520x2048 : Shape := ⟨2, ![520, 2048]⟩
abbrev S65x8x2048 : Shape := ⟨3, ![65, 8, 2048]⟩
abbrev S64x8x2048 : Shape := ⟨3, ![64, 8, 2048]⟩
abbrev S1x8x2048 : Shape := ⟨3, ![1, 8, 2048]⟩
abbrev S512x512 : Shape := ⟨2, ![512, 512]⟩
abbrev S2048x512 : Shape := ⟨2, ![2048, 512]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x12288, .bf16⟩
  | .hbm, ⟨2, _⟩ => ⟨S1x2048, .f32⟩
  | .hbm, ⟨3, _⟩ => ⟨S1x3x2048, .f32⟩
  | .hbm, ⟨4, _⟩ => ⟨S1x4096x2048, .f32⟩
  | .hbm, ⟨5, _⟩ => ⟨S4x4096x2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S3x2048, .f32⟩
  | .hbm, ⟨10, _⟩ => ⟨S4096x2048, .f32⟩
  | .hbm, ⟨11, _⟩ => ⟨S4096x2048, .bf16⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S3x2048, .f32⟩
  | .local _ .vmem, ⟨12, _⟩ => ⟨S4096x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S8x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x2048 : Shape := ⟨2, ![16384, 2048]⟩
abbrev S16384x12288 : Shape := ⟨2, ![16384, 12288]⟩
abbrev S1x2048 : Shape := ⟨2, ![1, 2048]⟩
abbrev S1x3x2048 : Shape := ⟨3, ![1, 3, 2048]⟩
abbrev S1x4096x2048 : Shape := ⟨3, ![1, 4096, 2048]⟩
abbrev S4x4096x2048 : Shape := ⟨3, ![4, 4096, 2048]⟩
abbrev S4x4096x12288 : Shape := ⟨3, ![4, 4096, 12288]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S3x2048 : Shape := ⟨2, ![3, 2048]⟩
abbrev S4x4098x2048 : Shape := ⟨3, ![4, 4098, 2048]⟩
abbrev S4x4096x4096 : Shape := ⟨3, ![4, 4096, 4096]⟩
abbrev S4096x2048 : Shape := ⟨2, ![4096, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x12288, .bf16⟩
  | .hbm, ⟨2, _⟩ => ⟨S1x2048, .f32⟩
  | .hbm, ⟨3, _⟩ => ⟨S1x3x2048, .f32⟩
  | .hbm, ⟨4, _⟩ => ⟨S1x4096x2048, .f32⟩
  | .hbm, ⟨5, _⟩ => ⟨S4x4096x2048, .f32⟩
  | .hbm, ⟨6, _⟩ => ⟨S16384x2048, .f32⟩
  | .hbm, ⟨7, _⟩ => ⟨S4x4096x2048, .f32⟩
  | .hbm, ⟨8, _⟩ => ⟨S16384x12288, .f32⟩
  | .hbm, ⟨9, _⟩ => ⟨S4x4096x12288, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S3x2048, .f32⟩
  | .hbm, ⟨43, _⟩ => ⟨S_, .i32⟩
  | .hbm, ⟨44, _⟩ => ⟨S_, .f32⟩
  | .hbm, ⟨45, _⟩ => ⟨S4x4098x2048, .f32⟩
  | .hbm, ⟨46, _⟩ => ⟨S4x4096x2048, .f32⟩
  | .hbm, ⟨47, _⟩ => ⟨S1x2048, .f32⟩
  | .hbm, ⟨48, _⟩ => ⟨S2048, .f32⟩
  | .hbm, ⟨49, _⟩ => ⟨S1x1x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S1x2048, .f32⟩
  | .hbm, ⟨54, _⟩ => ⟨S2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S1x2048, .f32⟩
  | .hbm, ⟨61, _⟩ => ⟨S2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S4x4096x4096, .f32⟩
  | .hbm, ⟨68, _⟩ => ⟨S4096x2048, .f32⟩
  | .hbm, ⟨69, _⟩ => ⟨S4x4096x2048, .f32⟩
  | .hbm, ⟨70, _⟩ => ⟨S4x4096x2048, .f32⟩
  | .hbm, ⟨71, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Ffn.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S4x4096x5632 : Shape := ⟨3, ![4, 4096, 5632]⟩
abbrev S5632x2048 : Shape := ⟨2, ![5632, 2048]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x5632, .f32⟩
  | .hbm, ⟨24, _⟩ => ⟨S4x4096x5632, .f32⟩
  | .hbm, ⟨25, _⟩ => ⟨S2048x5632, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S5632x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x2048, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | .hbm, ⟨56, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Mixer.lean ====
abbrev S16384x12288 : Shape := ⟨2, ![16384, 12288]⟩
abbrev S16384x128 : Shape := ⟨2, ![16384, 128]⟩
abbrev S1x4x4096 : Shape := ⟨3, ![1, 4, 4096]⟩
abbrev S1x4096 : Shape := ⟨2, ![1, 4096]⟩
abbrev S1x32 : Shape := ⟨2, ![1, 32]⟩
abbrev S1x4096x2048 : Shape := ⟨3, ![1, 4096, 2048]⟩
abbrev S1x2048x5632 : Shape := ⟨3, ![1, 2048, 5632]⟩
abbrev S1x5632x2048 : Shape := ⟨3, ![1, 5632, 2048]⟩
abbrev S4x4096 : Shape := ⟨2, ![4, 4096]⟩
abbrev S4096 : Shape := ⟨1, ![4096]⟩
abbrev S32 : Shape := ⟨1, ![32]⟩
abbrev S_ : Shape := ⟨0, ![]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S4096x2048 : Shape := ⟨2, ![4096, 2048]⟩
abbrev S2048x5632 : Shape := ⟨2, ![2048, 5632]⟩
abbrev S5632x2048 : Shape := ⟨2, ![5632, 2048]⟩
abbrev S16384x2048 : Shape := ⟨2, ![16384, 2048]⟩
abbrev S256x2048 : Shape := ⟨2, ![256, 2048]⟩
abbrev S256x128 : Shape := ⟨2, ![256, 128]⟩
abbrev S64x2048 : Shape := ⟨2, ![64, 2048]⟩
abbrev S32x5632 : Shape := ⟨2, ![32, 5632]⟩
abbrev S128x2048 : Shape := ⟨2, ![128, 2048]⟩
abbrev S2x32x136x128 : Shape := ⟨4, ![2, 32, 136, 128]⟩
abbrev S2x32x128x128 : Shape := ⟨4, ![2, 32, 128, 128]⟩
abbrev S8x128x256 : Shape := ⟨3, ![8, 128, 256]⟩
abbrev S256x4096 : Shape := ⟨2, ![256, 4096]⟩
abbrev S32x8x128 : Shape := ⟨3, ![32, 8, 128]⟩
abbrev S1x32x8x128 : Shape := ⟨4, ![1, 32, 8, 128]⟩
abbrev S128x4096 : Shape := ⟨2, ![128, 4096]⟩
abbrev S128x128 : Shape := ⟨2, ![128, 128]⟩
abbrev S32x128 : Shape := ⟨2, ![32, 128]⟩
abbrev S32x384 : Shape := ⟨2, ![32, 384]⟩
abbrev S384x128 : Shape := ⟨2, ![384, 128]⟩
abbrev S32x1 : Shape := ⟨2, ![32, 1]⟩
abbrev S128x256 : Shape := ⟨2, ![128, 256]⟩
abbrev S1x32x136x128 : Shape := ⟨4, ![1, 32, 136, 128]⟩
abbrev S32x136x128 : Shape := ⟨3, ![32, 136, 128]⟩
abbrev S1x128x128 : Shape := ⟨3, ![1, 128, 128]⟩
abbrev S4x128 : Shape := ⟨2, ![4, 128]⟩
abbrev S1x32x128 : Shape := ⟨3, ![1, 32, 128]⟩
abbrev S1x32x128x128 : Shape := ⟨4, ![1, 32, 128, 128]⟩
abbrev S32x128x128 : Shape := ⟨3, ![32, 128, 128]⟩
abbrev S1x8x128 : Shape := ⟨3, ![1, 8, 128]⟩
abbrev S8x128 : Shape := ⟨2, ![8, 128]⟩
abbrev S1x128x256 : Shape := ⟨3, ![1, 128, 256]⟩
abbrev S128x1 : Shape := ⟨2, ![128, 1]⟩
abbrev S128x512 : Shape := ⟨2, ![128, 512]⟩
abbrev S512x256 : Shape := ⟨2, ![512, 256]⟩
abbrev S256x512 : Shape := ⟨2, ![256, 512]⟩
abbrev S1x256 : Shape := ⟨2, ![1, 256]⟩

abbrev nBuf : Space → Nat
  | .hbm => 37
  | .vmem => 33
  | .smem => 0
  | _ => 0

abbrev bufTy : (tb : Table) → Fin (tcTables nBuf tb) → BufTy
  | .hbm, ⟨0, _⟩ => ⟨S16384x12288, .bf16⟩
  | .hbm, ⟨1, _⟩ => ⟨S16384x128, .f32⟩
  | .hbm, ⟨2, _⟩ => ⟨S1x4x4096, .f32⟩
  | .hbm, ⟨3, _⟩ => ⟨S1x4096, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x4096x2048, .f32⟩
  | .hbm, ⟨8, _⟩ => ⟨S1x2048x5632, .f32⟩
  | .hbm, ⟨9, _⟩ => ⟨S1x2048x5632, .f32⟩
  | .hbm, ⟨10, _⟩ => ⟨S1x5632x2048, .f32⟩
  | .hbm, ⟨11, _⟩ => ⟨S4x4096, .f32⟩
  | .hbm, ⟨12, _⟩ => ⟨S4096, .f32⟩
  | .hbm, ⟨13, _⟩ => ⟨S1x4096, .f32⟩
  | .hbm, ⟨14, _⟩ => ⟨S32, .f32⟩
  | .hbm, ⟨15, _⟩ => ⟨S1x32, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S32, .f32⟩
  | .hbm, ⟨20, _⟩ => ⟨S1x32, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S32, .f32⟩
  | .hbm, ⟨25, _⟩ => ⟨S32x64, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S2048x5632, .f32⟩
  | .hbm, ⟨30, _⟩ => ⟨S2048x5632, .f32⟩
  | .hbm, ⟨31, _⟩ => ⟨S5632x2048, .f32⟩
  | .hbm, ⟨32, _⟩ => ⟨S16384x2048, .bf16⟩
  | .hbm, ⟨33, _⟩ => ⟨S4096x2048, .bf16⟩
  | .hbm, ⟨34, _⟩ => ⟨S2048x5632, .bf16⟩
  | .hbm, ⟨35, _⟩ => ⟨S2048x5632, .bf16⟩
  | .hbm, ⟨36, _⟩ => ⟨S5632x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S4x4096, .f32⟩
  | .local _ .vmem, ⟨7, _⟩ => ⟨S1x4096, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S64x2048, .f32⟩
  | .local _ .vmem, ⟨12, _⟩ => ⟨S64x2048, .f32⟩
  | .local _ .vmem, ⟨13, _⟩ => ⟨S32x5632, .f32⟩
  | .local _ .vmem, ⟨14, _⟩ => ⟨S32x5632, .f32⟩
  | .local _ .vmem, ⟨15, _⟩ => ⟨S32x5632, .f32⟩
  | .local _ .vmem, ⟨16, _⟩ => ⟨S32x5632, .f32⟩
  | .local _ .vmem, ⟨17, _⟩ => ⟨S128x2048, .f32⟩
  | .local _ .vmem, ⟨18, _⟩ => ⟨S128x2048, .f32⟩
  | .local _ .vmem, ⟨19, _⟩ => ⟨S256x2048, .bf16⟩
  | .local _ .vmem, ⟨20, _⟩ => ⟨S256x2048, .bf16⟩
  | .local _ .vmem, ⟨21, _⟩ => ⟨S64x2048, .bf16⟩
  | .local _ .vmem, ⟨22, _⟩ => ⟨S64x2048, .bf16⟩
  | .local _ .vmem, ⟨23, _⟩ => ⟨S32x5632, .bf16⟩
  | .local _ .vmem, ⟨24, _⟩ => ⟨S32x5632, .bf16⟩
  | .local _ .vmem, ⟨25, _⟩ => ⟨S32x5632, .bf16⟩
  | .local _ .vmem, ⟨26, _⟩ => ⟨S32x5632, .bf16⟩
  | .local _ .vmem, ⟨27, _⟩ => ⟨S128x2048, .bf16⟩
  | .local _ .vmem, ⟨28, _⟩ => ⟨S128x2048, .bf16⟩
  | .local _ .vmem, ⟨29, _⟩ => ⟨S2x32x136x128, .f32⟩
  | .local _ .vmem, ⟨30, _⟩ => ⟨S2x32x128x128, .f32⟩
  | .local _ .vmem, ⟨31, _⟩ => ⟨S8x128x256, .f32⟩
  | .local _ .vmem, ⟨32, _⟩ => ⟨S256x4096, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 16], ![false, false]⟩

def k0_mult1 : BitVec 32 :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  v20
def k0_off1 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v22 : Index := Scalar.indexCast v21
  let c0_17 : Index := 0#32
  ![v22.toNat, 0]
def k0_off2 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v83 : Index := Scalar.indexCast v21
  let c0_27 : Index := 0#32
  ![v83.toNat, 0]
def k0_off3 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v91 : Index := Scalar.indexCast v21
  let c128 : Index := 128#32
  ![v91.toNat, 128]
def k0_off4 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v99 : Index := Scalar.indexCast v21
  let c256 : Index := 256#32
  ![v99.toNat, 256]
def k0_off5 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v107 : Index := Scalar.indexCast v21
  let c384 : Index := 384#32
  ![v107.toNat, 384]
def k0_off6 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v115 : Index := Scalar.indexCast v21
  let c512 : Index := 512#32
  ![v115.toNat, 512]
def k0_off7 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v123 : Index := Scalar.indexCast v21
  let c640 : Index := 640#32
  ![v123.toNat, 640]
def k0_off8 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v131 : Index := Scalar.indexCast v21
  let c768 : Index := 768#32
  ![v131.toNat, 768]
def k0_off9 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v139 : Index := Scalar.indexCast v21
  let c896 : Index := 896#32
  ![v139.toNat, 896]
def k0_off10 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v147 : Index := Scalar.indexCast v21
  let c1024 : Index := 1024#32
  ![v147.toNat, 1024]
def k0_off11 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v155 : Index := Scalar.indexCast v21
  let c1152 : Index := 1152#32
  ![v155.toNat, 1152]
def k0_off12 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v163 : Index := Scalar.indexCast v21
  let c1280 : Index := 1280#32
  ![v163.toNat, 1280]
def k0_off13 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v171 : Index := Scalar.indexCast v21
  let c1408 : Index := 1408#32
  ![v171.toNat, 1408]
def k0_off14 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v179 : Index := Scalar.indexCast v21
  let c1536 : Index := 1536#32
  ![v179.toNat, 1536]
def k0_off15 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v187 : Index := Scalar.indexCast v21
  let c1664 : Index := 1664#32
  ![v187.toNat, 1664]
def k0_off16 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v195 : Index := Scalar.indexCast v21
  let c1792 : Index := 1792#32
  ![v195.toNat, 1792]
def k0_off17 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v203 : Index := Scalar.indexCast v21
  let c1920 : Index := 1920#32
  ![v203.toNat, 1920]
def k0_off18 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5110 : Index := Scalar.indexCast v21
  let c0_3384 : Index := 0#32
  ![v5110.toNat, 0]
def k0_off19 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5218 : Index := Scalar.indexCast v21
  let c256_3440 : Index := 256#32
  ![v5218.toNat, 256]
def k0_off20 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5326 : Index := Scalar.indexCast v21
  let c512_3496 : Index := 512#32
  ![v5326.toNat, 512]
def k0_off21 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5434 : Index := Scalar.indexCast v21
  let c768_3552 : Index := 768#32
  ![v5434.toNat, 768]
def k0_off22 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5542 : Index := Scalar.indexCast v21
  let c1024_3608 : Index := 1024#32
  ![v5542.toNat, 1024]
def k0_off23 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5650 : Index := Scalar.indexCast v21
  let c1280_3664 : Index := 1280#32
  ![v5650.toNat, 1280]
def k0_off24 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5758 : Index := Scalar.indexCast v21
  let c1536_3720 : Index := 1536#32
  ![v5758.toNat, 1536]
def k0_off25 : Fin 2 → Nat :=
  let c2_i32 : BitVec 32 := 2#32
  let c0_i32_16 : BitVec 32 := 0#32
  let v19 : BitVec 32 := Scalar.muli c2_i32 c0_i32_16
  let c128_i32 : BitVec 32 := 128#32
  let v20 : BitVec 32 := Scalar.muli v19 c128_i32
  let v21 : BitVec 32 := v20
  let v5866 : Index := Scalar.indexCast v21
  let c1792_3776 : Index := 1792#32
  ![v5866.toNat, 1792]
def k0_mult2 : BitVec 32 :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  v5870
def k0_off26 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5872 : Index := Scalar.indexCast v5871
  let c0_3780 : Index := 0#32
  ![v5872.toNat, 0]
def k0_off27 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5933 : Index := Scalar.indexCast v5871
  let c0_3791 : Index := 0#32
  ![v5933.toNat, 0]
def k0_off28 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5941 : Index := Scalar.indexCast v5871
  let c128_3799 : Index := 128#32
  ![v5941.toNat, 128]
def k0_off29 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5949 : Index := Scalar.indexCast v5871
  let c256_3807 : Index := 256#32
  ![v5949.toNat, 256]
def k0_off30 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5957 : Index := Scalar.indexCast v5871
  let c384_3815 : Index := 384#32
  ![v5957.toNat, 384]
def k0_off31 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5965 : Index := Scalar.indexCast v5871
  let c512_3823 : Index := 512#32
  ![v5965.toNat, 512]
def k0_off32 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5973 : Index := Scalar.indexCast v5871
  let c640_3831 : Index := 640#32
  ![v5973.toNat, 640]
def k0_off33 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5981 : Index := Scalar.indexCast v5871
  let c768_3839 : Index := 768#32
  ![v5981.toNat, 768]
def k0_off34 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5989 : Index := Scalar.indexCast v5871
  let c896_3847 : Index := 896#32
  ![v5989.toNat, 896]
def k0_off35 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v5997 : Index := Scalar.indexCast v5871
  let c1024_3855 : Index := 1024#32
  ![v5997.toNat, 1024]
def k0_off36 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6005 : Index := Scalar.indexCast v5871
  let c1152_3863 : Index := 1152#32
  ![v6005.toNat, 1152]
def k0_off37 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6013 : Index := Scalar.indexCast v5871
  let c1280_3871 : Index := 1280#32
  ![v6013.toNat, 1280]
def k0_off38 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6021 : Index := Scalar.indexCast v5871
  let c1408_3879 : Index := 1408#32
  ![v6021.toNat, 1408]
def k0_off39 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6029 : Index := Scalar.indexCast v5871
  let c1536_3887 : Index := 1536#32
  ![v6029.toNat, 1536]
def k0_off40 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6037 : Index := Scalar.indexCast v5871
  let c1664_3895 : Index := 1664#32
  ![v6037.toNat, 1664]
def k0_off41 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6045 : Index := Scalar.indexCast v5871
  let c1792_3903 : Index := 1792#32
  ![v6045.toNat, 1792]
def k0_off42 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v6053 : Index := Scalar.indexCast v5871
  let c1920_3911 : Index := 1920#32
  ![v6053.toNat, 1920]
def k0_off43 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v10960 : Index := Scalar.indexCast v5871
  let c0_7213 : Index := 0#32
  ![v10960.toNat, 0]
def k0_off44 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11068 : Index := Scalar.indexCast v5871
  let c256_7269 : Index := 256#32
  ![v11068.toNat, 256]
def k0_off45 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11176 : Index := Scalar.indexCast v5871
  let c512_7325 : Index := 512#32
  ![v11176.toNat, 512]
def k0_off46 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11284 : Index := Scalar.indexCast v5871
  let c768_7381 : Index := 768#32
  ![v11284.toNat, 768]
def k0_off47 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11392 : Index := Scalar.indexCast v5871
  let c1024_7437 : Index := 1024#32
  ![v11392.toNat, 1024]
def k0_off48 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11500 : Index := Scalar.indexCast v5871
  let c1280_7493 : Index := 1280#32
  ![v11500.toNat, 1280]
def k0_off49 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11608 : Index := Scalar.indexCast v5871
  let c1536_7549 : Index := 1536#32
  ![v11608.toNat, 1536]
def k0_off50 : Fin 2 → Nat :=
  let c2_i32_3777 : BitVec 32 := 2#32
  let c0_i32_16 : BitVec 32 := 0#32
  let v5868 : BitVec 32 := Scalar.muli c2_i32_3777 c0_i32_16
  let c1_i32_3778 : BitVec 32 := 1#32
  let v5869 : BitVec 32 := Scalar.addi v5868 c1_i32_3778
  let c128_i32_3779 : BitVec 32 := 128#32
  let v5870 : BitVec 32 := Scalar.muli v5869 c128_i32_3779
  let v5871 : BitVec 32 := v5870
  let v11716 : Index := Scalar.indexCast v5871
  let c1792_7605 : Index := 1792#32
  ![v11716.toNat, 1792]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proof.PrepRuns.lean ====
module

public import proofs.«01_k».proof.Proof.Gen.PrepIdeal.Frame
public import proofs.«01_k».proof.Proof.Gen.PrepIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The branch conditions of the body, and the staging and scratch buffers it is run on. -/

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 12 — decided over the grid. -/
theorem hcond0_0 : ∀ t : Fin cfg0.N, cond0_0 (grid0.coords t) ↔ t.val < 12 :=
  (by decide +kernel : ∀ t : Fin grid0.N, cond0_0 (grid0.coords t) ↔ t.val < 12)

/-- The condition of the body's `scf.if` 1 (`k0_h2`), from the grid coordinates (the skeleton's scalar
    chain substituted). -/
abbrev cond0_1 (i : grid0.Coords) : Prop := k0_cond2 i = 1#1
/-- It holds at the points from point 12 on — decided over the grid. -/
theorem hcond0_1 : ∀ t : Fin cfg0.N, cond0_1 (grid0.coords t) ↔ 12 ≤ t.val :=
  (by decide +kernel : ∀ t : Fin grid0.N, cond0_1 (grid0.coords t) ↔ 12 ≤ t.val)

/-- The condition of the body's `scf.if` 2 (`k0_h3`), from the grid coordinates (the skeleton's scalar
    chain substituted). -/
abbrev cond0_2 (i : grid0.Coords) : Prop := k0_cond3 i = 1#1
/-- It holds at point 12 only — by arithmetic of the point. -/
theorem hcond0_2 : ∀ t : Fin cfg0.N, cond0_2 (grid0.coords t) ↔ t.val % 24 = 12 :=
  (fun t => by
    have ht : t.val < 24 := Nat.lt_of_lt_of_eq t.isLt N_0
    have e0 : (grid0.coords t 0).val = t.val / 1 % 24 := Pipeline.Grid.coords_val t 0 (by decide) rfl
    simp only [cond0_2, k0_cond3, e0]
    word_cmp
   : ∀ t : Fin grid0.N, cond0_2 (grid0.coords t) ↔ t.val % 24 = 12)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 live: the case stores into it. -/
theorem liveAt0_2_A : ∀ t : Fin cfg0.N, cond0_0 (grid0.coords t) → ¬cond0_1 (grid0.coords t) → ¬cond0_2 (grid0.coords t) → cfg0.idle 2 (grid0.coords t) = false := by decide +kernel
/-- At the points of case B the printed configuration (`Cfg.idle`) calls output 2 live: the case stores into it. -/
theorem liveAt0_2_B : ∀ t : Fin cfg0.N, ¬cond0_0 (grid0.coords t) → cond0_1 (grid0.coords t) → cond0_2 (grid0.coords t) → cfg0.idle 2 (grid0.coords t) = false := by decide +kernel
/-- At the points of case C the printed configuration (`Cfg.idle`) calls output 2 live: the case stores into it. -/
theorem liveAt0_2_C : ∀ t : Fin cfg0.N, ¬cond0_0 (grid0.coords t) → cond0_1 (grid0.coords t) → ¬cond0_2 (grid0.coords t) → cfg0.idle 2 (grid0.coords t) = false := by decide +kernel
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x800fff : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration (`Cfg.idle`) calls output 3 live: the case stores into it. -/
theorem liveAt0_3_B : ∀ t : Fin cfg0.N, ¬cond0_0 (grid0.coords t) → cond0_1 (grid0.coords t) → cond0_2 (grid0.coords t) → cfg0.idle 3 (grid0.coords t) = false := by decide +kernel
/-- At the points of case C the printed configuration (`Cfg.idle`) calls output 3 idle: the case stores nothing into it. -/
theorem idleAt0_3_C : ∀ t : Fin cfg0.N, ¬cond0_0 (grid0.coords t) → cond0_1 (grid0.coords t) → ¬cond0_2 (grid0.coords t) → cfg0.idle 3 (grid0.coords t) = true := by decide +kernel
/-- At the points of case C, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_C : ∀ t : Fin cfg0.N, ¬cond0_0 (grid0.coords t) → cond0_1 (grid0.coords t) → ¬cond0_2 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S512x2048 .bf16 := (Memref.whole cc0_stg2_0 : Memref sig .tc .vmem S512x2048 .bf16).view
/-- One staging buffer of output window 3, through which its contents are stated (`View.read_writes_of_cover`: the
    choice does not matter). -/
abbrev VO0_3 : View sig .tc .vmem S128x2048 .bf16 := (Memref.whole cc0_stg3_0 : Memref sig .tc .vmem S128x2048 .bf16).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)

end Cert.PrepIdeal.Gen

end
-- ==== Proof.PrepRunA.lean ====
module

public import proofs.«01_k».proof.Proof.PrepRuns

@[expose] public section

set_option maxRecDepth 16384

noncomputable section

/-! The body's run in case A. -/

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 1, … 11: 12 of 24), WITH the
    proof that on whole staging memrefs — the inputs' at their contents, the outputs it leaves idle (3: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : cond0_0 i) (hc1 : ¬cond0_1 i) (hc2 : ¬cond0_2 i)
    (x0 : Vec F S512x2048 .f32) (x1 : Vec F S32x2048 .f32) :
    Σ' (L2 : List (View.Piece (Elt F) S512x2048 .bf16)), { L3 : List (View.Piece (Elt F) S128x2048 .bf16) //
      ∀ (xi3 : Vec F S128x2048 .bf16) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3) -∗ K ⟨⟩))
          ⊢ wp frame (wpE (defs₀ (F := F)) Variants.none c none) E (cc0_prep_w_in i arg1 harg1 arg2 harg2 arg3 harg3 arg4 harg4) K } := by
  refine ⟨?_, [], fun xi3 E K => ?run⟩
  case run =>
    simp only [cc0_prep_w_in_eq_skeleton]; unfold cc0_prep_w_in_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; isplitr; · ipureintro; exact harg4.read_unread _
    iexact H3

end Cert.PrepIdeal.Gen

end
-- ==== Proof.PrepRunB.lean ====
module

public import proofs.«01_k».proof.Proof.PrepRunA

@[expose] public section

set_option maxRecDepth 16384

noncomputable section

/-! The body's run in case B. -/

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 taken: points 12), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : cond0_2 i)
    (x0 : Vec F S512x2048 .f32) (x1 : Vec F S32x2048 .f32) :
    Σ' (L2 : List (View.Piece (Elt F) S512x2048 .bf16)), { L3 : List (View.Piece (Elt F) S128x2048 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_prep_w_in i arg1 harg1 arg2 harg2 arg3 harg3 arg4 harg4) K } := by
  refine ⟨?_, ?_, fun E K => ?run⟩
  case run =>
    simp only [cc0_prep_w_in_eq_skeleton]; unfold cc0_prep_w_in_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

end Cert.PrepIdeal.Gen

end
-- ==== Proof.PrepRunC.lean ====
module

public import proofs.«01_k».proof.Proof.PrepRunB

@[expose] public section

set_option maxRecDepth 16384

noncomputable section

/-! The body's run in case C. -/

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 13, 14, … 23: 11 of 24), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : ¬cond0_2 i)
    (x0 : Vec F S512x2048 .f32) (x1 : Vec F S32x2048 .f32) (xo3 : Vec F S128x2048 .bf16) :
    Σ' (L2 : List (View.Piece (Elt F) S512x2048 .bf16)), { L3 : List (View.Piece (Elt F) S128x2048 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xo3) -∗ K ⟨⟩))
          ⊢ wp frame (wpE (defs₀ (F := F)) Variants.none c none) E (cc0_prep_w_in i arg1 harg1 arg2 harg2 arg3 harg3 arg4 harg4) K } := by
  refine ⟨?_, [], fun E K => ?run⟩
  case run =>
    simp only [cc0_prep_w_in_eq_skeleton]; unfold cc0_prep_w_in_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; isplitr; · ipureintro; exact harg4.read_unread _
    iexact H3

end Cert.PrepIdeal.Gen

end
-- ==== Proof.PrepFrame.lean ====
module

public import proofs.«01_k».proof.Proof.PrepRunC
public import Idealize.ShloMosaic.Lib.Claim

@[expose] public section

set_option maxRecDepth 16384

noncomputable section

/-! What the buffers hold after each point, and the frame. -/

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (1 store of `S512x2048`, checked by the kernel's evaluation: Lib/Ring.lean `Piece.tiledL`, linear in the pieces, through a loop's `@[irreducible]` trip theorem too), so they cover it. -/
theorem cover0_A_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : cond0_0 i) (hc1 : ¬cond0_1 i) (hc2 : ¬cond0_2 i)
    (x0 : Vec F S512x2048 .f32) (x1 : Vec F S32x2048 .f32) (y : S512x2048.Idx) :
    ∃ pc ∈ (kernelRun0_A c i arg1 harg1 arg2 harg2 arg3 harg3 arg4 harg4 hc0 hc1 hc2 x0 x1).1, y ∈ pc.1.set :=
  View.cover_of_tiledL (kernelRun0_A c i arg1 harg1 arg2 harg2 arg3 harg3 arg4 harg4 hc0 hc1 hc2 x0 x1).1 S512x2048.size (by sl_kernel_rfl) y

/-- What case A leaves in output 2's staging buffer: its pieces read back over junk. -/
def out0_A_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : cond0_0 i) (hc1 : ¬cond0_1 i) (hc2 : ¬cond0_2 i)
    (x0 : Vec F S512x2048 .f32) (x1 : Vec F S32x2048 .f32) : Vec F S512x2048 .bf16 :=
  VO0_2.read (Elt F) (VO0_2.writes (Elt F) VO0_2.junk (kernelRun0_A c i arg1 harg1 arg2 harg2 arg3 harg3 arg4 harg4 hc0 hc1 hc2 x0 x1).1)

/-- Case A stores nothing into output 3 (the window is idle at its points and not written back there) and another
    case keeps its prior contents (reads it before covering, or covers it in part): what its buffer holds after the body is what the
    point before left, CARRIED — an argument of this term alone, which the run does not take (Lib/Pipeline/TableIdle.lean `Dat.before_out_traj`). -/
def out0_A_3 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : cond0_0 i) (hc1 : ¬cond0_1 i) (hc2 : ¬cond0_2 i)
    (x0 : Vec F S512x2048 .f32) (x1 : Vec F S32x2048 .f32) (xo3 : Vec F S128x2048 .bf16) : Vec F S128x2048 .bf16 := xo3

/-- Case B's pieces for output 2 are of SEVERAL sizes (2 stores of `S32x2048`, `S480x2048`): cut into blocks of `![32, 2048]` they tile its block (checked by the kernel's evaluation: Lib/Ring.lean `Piece.tiledBy`), so they cover it. -/
theorem cover0_B_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : cond0_2 i)
    (x0 : Vec F S512x2048 .f32) (x1 : Vec F S32x2048 .f32) (y : S512x2048.Idx) :
    ∃ pc ∈ (kernelRun0_B c i arg1 harg1 arg2 harg2 arg3 harg3 arg4 harg4 hc0 hc1 hc2 x0 x1).1, y ∈ pc.1.set :=
  View.cover_of_tiledBy (kernelRun0_B c i arg1 harg1 arg2 harg2 arg3 harg3 arg4 harg4 hc0 hc1 hc2 x0 x1).1 ![32, 2048] (by sl_kernel_rfl) y

/-- What case B leaves in output 2's staging buffer: its pieces read back over junk. -/
def out0_B_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : cond0_2 i)
    (x0 : Vec F S512x2048 .f32) (x1 : Vec F S32x2048 .f32) : Vec F S512x2048 .bf16 :=
  VO0_2.read (Elt F) (VO0_2.writes (Elt F) VO0_2.junk (kernelRun0_B c i arg1 harg1 arg2 harg2 arg3 harg3 arg4 harg4 hc0 hc1 hc2 x0 x1).1)

/-- Case B's pieces for output 3 are of SEVERAL sizes (2 stores of `S32x2048`, `S96x2048`): cut into blocks of `![32, 2048]` they tile its block (checked by the kernel's evaluation: Lib/Ring.lean `Piece.tiledBy`), so they cover it. -/
theorem cover0_B_3 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : cond0_2 i)
    (x0 : Vec F S512x2048 .f32) (x1 : Vec F S32x2048 .f32) (y : S128x2048.Idx) :
    ∃ pc ∈ (kernelRun0_B c i arg1 harg1 arg2 harg2 arg3 harg3 arg4 harg4 hc0 hc1 hc2 x0 x1).2.1, y ∈ pc.1.set :=
  View.cover_of_tiledBy (kernelRun0_B c i arg1 harg1 arg2 harg2 arg3 harg3 arg4 harg4 hc0 hc1 hc2 x0 x1).2.1 ![32, 2048] (by sl_kernel_rfl) y

/-- What case B leaves in output 3's staging buffer: its pieces read back over junk. -/
def out0_B_3 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : cond0_2 i)
    (x0 : Vec F S512x2048 .f32) (x1 : Vec F S32x2048 .f32) : Vec F S128x2048 .bf16 :=
  VO0_3.read (Elt F) (VO0_3.writes (Elt F) VO0_3.junk (kernelRun0_B c i arg1 harg1 arg2 harg2 arg3 harg3 arg4 harg4 hc0 hc1 hc2 x0 x1).2.1)

/-- Case C's pieces for output 2 are of SEVERAL sizes (2 stores of `S32x2048`, `S480x2048`): cut into blocks of `![32, 2048]` they tile its block (checked by the kernel's evaluation: Lib/Ring.lean `Piece.tiledBy`), so they cover it. -/
theorem cover0_C_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : ¬cond0_2 i)
    (x0 : Vec F S512x2048 .f32) (x1 : Vec F S32x2048 .f32) (xo3 : Vec F S128x2048 .bf16) (y : S512x2048.Idx) :
    ∃ pc ∈ (kernelRun0_C c i arg1 harg1 arg2 harg2 arg3 harg3 arg4 harg4 hc0 hc1 hc2 x0 x1 xo3).1, y ∈ pc.1.set :=
  View.cover_of_tiledBy (kernelRun0_C c i arg1 harg1 arg2 harg2 arg3 harg3 arg4 harg4 hc0 hc1 hc2 x0 x1 xo3).1 ![32, 2048] (by sl_kernel_rfl) y

/-- What case C leaves in output 2's staging buffer: its pieces read back over junk. -/
def out0_C_2 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : ¬cond0_2 i)
    (x0 : Vec F S512x2048 .f32) (x1 : Vec F S32x2048 .f32) (xo3 : Vec F S128x2048 .bf16) : Vec F S512x2048 .bf16 :=
  VO0_2.read (Elt F) (VO0_2.writes (Elt F) VO0_2.junk (kernelRun0_C c i arg1 harg1 arg2 harg2 arg3 harg3 arg4 harg4 hc0 hc1 hc2 x0 x1 xo3).1)

/-- Case C stores nothing into output 3, a live window: its staging buffer holds what the point before left. -/
def out0_C_3 (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole) (hc0 : ¬cond0_0 i) (hc1 : cond0_1 i) (hc2 : ¬cond0_2 i)
    (x0 : Vec F S512x2048 .f32) (x1 : Vec F S32x2048 .f32) (xo3 : Vec F S128x2048 .bf16) : Vec F S128x2048 .bf16 := xo3

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x2048 .bf16 × Vec F S128x2048 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by (try dsimp only); omega)) (fun h => (fun h => by (try dsimp only at h); omega) ((hcond0_1 ⟨0, hn⟩).mp h)) (fun h => (fun h => by (try dsimp only at h); omega) ((hcond0_2 ⟨0, hn⟩).mp h)) (X0_0 m c ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by (try dsimp only); omega)) (fun h => (fun h => by (try dsimp only at h); omega) ((hcond0_1 ⟨0, hn⟩).mp h)) (fun h => (fun h => by (try dsimp only at h); omega) ((hcond0_2 ⟨0, hn⟩).mp h)) (X0_0 m c ⟨0, hn⟩) (iblk m c 1 ⟨0, hn⟩) ((VO0_2.read (Elt F) VO0_2.junk, VO0_3.read (Elt F) VO0_3.junk) : Vec F S512x2048 .bf16 × Vec F S128x2048 .bf16).2)
  | n + 1, hn =>
    if h0 : (n + 1) < 12 then
      if h1 : 12 ≤ (n + 1) then
        False.elim (by have hN : n + 1 < 24 := lt_of_lt_of_eq hn (show cfg0.N = 24 from N_0); omega)
      else
        if h2 : (n + 1) % 24 = 12 then
          False.elim (by have hN : n + 1 < 24 := lt_of_lt_of_eq hn (show cfg0.N = 24 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (fun h => h2 ((hcond0_2 ⟨n + 1, hn⟩).mp h)) (X0_0 m c ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (fun h => h2 ((hcond0_2 ⟨n + 1, hn⟩).mp h)) (X0_0 m c ⟨n + 1, hn⟩) (iblk m c 1 ⟨n + 1, hn⟩) (outsAt0 c n (Nat.lt_of_succ_lt hn)).2)
    else
      if h1 : 12 ≤ (n + 1) then
        if h2 : (n + 1) % 24 = 12 then
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) ((hcond0_2 ⟨n + 1, hn⟩).mpr h2) (X0_0 m c ⟨n + 1, hn⟩) (iblk m c 1 ⟨n + 1, hn⟩), out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) ((hcond0_2 ⟨n + 1, hn⟩).mpr h2) (X0_0 m c ⟨n + 1, hn⟩) (iblk m c 1 ⟨n + 1, hn⟩))
        else
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (outsAt0 c n (Nat.lt_of_succ_lt hn)).2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (iblk m c 1 ⟨n + 1, hn⟩) (outsAt0 c n (Nat.lt_of_succ_lt hn)).2)
      else
        False.elim (by have hN : n + 1 < 24 := lt_of_lt_of_eq hn (show cfg0.N = 24 from N_0); omega)

/-- `outsAt0` at a point of case A: that case's contents, over what the point before left. -/
theorem outsAt0_A (c : Dev nD) (t : Fin cfg0.N) (h0 : t.val < 12) (h1 : ¬12 ≤ t.val) (h2 : ¬t.val % 24 = 12) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (fun h => h2 ((hcond0_2 t).mp h)) (X0_0 m c t) (iblk m c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (fun h => h2 ((hcond0_2 t).mp h)) (X0_0 m c t) (iblk m c 1 t) (outsAt0 m c (t.val - 1) (Nat.lt_of_le_of_lt (Nat.sub_le _ _) t.isLt)).2) := by
  obtain ⟨n, hn⟩ := t
  cases n with
  | zero => exact rfl
  | succ n => exact (dif_pos h0).trans ((dif_neg h1).trans ((dif_neg h2).trans rfl))

/-- `outsAt0` at a point of case B: that case's contents. -/
theorem outsAt0_B (c : Dev nD) (t : Fin cfg0.N) (h0 : ¬t.val < 12) (h1 : 12 ≤ t.val) (h2 : t.val % 24 = 12) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) ((hcond0_2 t).mpr h2) (X0_0 m c t) (iblk m c 1 t), out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) ((hcond0_2 t).mpr h2) (X0_0 m c t) (iblk m c 1 t)) := by
  obtain ⟨n, hn⟩ := t
  cases n with
  | zero => exact (by exfalso; (try dsimp only at h0); exact by omega)
  | succ n => exact (dif_neg h0).trans ((dif_pos h1).trans ((dif_pos h2).trans rfl))

/-- `outsAt0` at a point of case C: that case's contents, over what the point before left. -/
theorem outsAt0_C (c : Dev nD) (t : Fin cfg0.N) (h0 : ¬t.val < 12) (h1 : 12 ≤ t.val) (h2 : ¬t.val % 24 = 12) :
    outsAt0 m c t.val t.isLt = (out0_C_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (fun h => h2 ((hcond0_2 t).mp h)) (X0_0 m c t) (iblk m c 1 t) (outsAt0 m c (t.val - 1) (Nat.lt_of_le_of_lt (Nat.sub_le _ _) t.isLt)).2, out0_C_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (fun h => h2 ((hcond0_2 t).mp h)) (X0_0 m c t) (iblk m c 1 t) (outsAt0 m c (t.val - 1) (Nat.lt_of_le_of_lt (Nat.sub_le _ _) t.isLt)).2) := by
  obtain ⟨n, hn⟩ := t
  cases n with
  | zero => exact (by exfalso; (try dsimp only at h0); exact by omega)
  | succ n => exact (dif_neg h0).trans ((dif_pos h1).trans ((dif_neg h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => (outsAt0 m c t.val t.isLt).1
    | ⟨3, _⟩ => (outsAt0 m c t.val t.isLt).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 24 := lt_of_lt_of_eq t.isLt (show cfg0.N = 24 from N_0)
  rw [after0_3, after0_3]
  by_cases h0 : t.val < 12
  · by_cases h1 : 12 ≤ t.val
    · exfalso; omega
    · by_cases h2 : t.val % 24 = 12
      · exfalso; omega
      · rw [outsAt0_A m c t h0 h1 h2]
        dsimp only
        unfold out0_A_3
        rfl
  · by_cases h1 : 12 ≤ t.val
    · by_cases h2 : t.val % 24 = 12
      · rw [liveAt0_3_B t (fun h => h0 ((hcond0_0 t).mp h)) ((hcond0_1 t).mpr h1) ((hcond0_2 t).mpr h2)] at hi
        exact absurd hi Bool.false_ne_true
      · rw [outsAt0_C m c t h0 h1 h2]; dsimp only; unfold out0_C_3; rfl
    · exfalso; omega
/-- At a point of case C output 3's current staging buffer holds what the point before left: the buffer is not fresh
    there (`notFresh0_3_C`: stored into since the region's entry or the last write-back, carried through the points that
    leave it idle by `hcarry0_3`; Lib/Pipeline/TableIdle.lean `Dat.before_out_traj`). -/
theorem before0_3_C (c : Dev nD) (t : Fin cfg0.N) (h0 : ¬t.val < 12) (h1 : 12 ≤ t.val) (h2 : ¬t.val % 24 = 12) (d) :
    (dats m 0 c).before 3 t d = (outsAt0 m c (t.val - 1) (Nat.lt_of_le_of_lt (Nat.sub_le _ _) t.isLt)).2 := by
  rw [Dat.before_out_traj _ 3 rfl (fun _ _ => rfl) (hcarry0_3 m c) t.val t rfl d,
    if_neg (by rw [notFresh0_3_C t (fun h => h0 ((hcond0_0 t).mp h)) ((hcond0_1 t).mpr h1) (fun h => h2 ((hcond0_2 t).mp h))]; exact Bool.false_ne_true)]
  dsimp only [dats]

/-- A buffer held at the same contents whatever the witness is held at those contents. -/
theorem exists_same {α : Type _} (a : α) (P : sProp 𝕄) : iprop(∃ _ : α, P) = P := by
  refine Idealize.SL.BI.Entails.antisymm (show iprop(∃ _ : α, P) ⊢ P from ?_) (show P ⊢ iprop(∃ _ : α, P) from ?_)
  · iintro ⟨%d, H⟩; iexact H
  · iintro H; iexists a; iexact H

/-- At a point of case C the body leaves output 3's buffer as it found it, and what it found is what the block's first point left:
    the same whether the point writes the block back or not. -/
theorem leaves0_3_C (c : Dev nD) (t : Fin cfg0.N) (h0 : ¬t.val < 12) (h1 : 12 ≤ t.val) (h2 : ¬t.val % 24 = 12) :
    (dats m 0 c).leavesExact 3 t = owns (c : Thread nD τ) (ms0_3 t) fullShare ((dats m 0 c).after 3 t) := by
  have hb : ∀ d, (dats m 0 c).before 3 t d = (dats m 0 c).after 3 t := fun d => by
    rw [before0_3_C m c t h0 h1 h2 d, after0_3, outsAt0_C m c t h0 h1 h2]; rfl
  unfold Dat.leavesExact
  rw [idleAt0_3_C t (fun h => h0 ((hcond0_0 t).mp h)) ((hcond0_1 t).mpr h1) (fun h => h2 ((hcond0_2 t).mp h))]
  cases (cfg0.win 3).flush t
  · dsimp only
    simp only [hb]
    exact exists_same ((dats m 0 c).after 3 t) _
  · rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt (show cfg0.N = 24 from N_0)
  by_cases h0 : t.val < 12
  · by_cases h1 : 12 ≤ t.val
    · exfalso; omega
    · by_cases h2 : t.val % 24 = 12
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_A t ((hcond0_0 t).mpr h0) (fun h => h1 ((hcond0_1 t).mp h)) (fun h => h2 ((hcond0_2 t).mp h))], after0_2]
        rw [Dat.leavesExact_idle (dats m 0 c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        rw [outsAt0_A m c t h0 h1 h2]
        unfold out0_A_2; (try dsimp only)
        iintro ⟨HΦ, Ho, ⟨%d0, H0⟩, ⟨%d1, H1⟩, ⟨%d2, H2⟩, ⟨%d3, H3⟩⟩
        iapply ((kernelRun0_A c (grid0.coords t) _ _ _ _ _ _ _ _ ((hcond0_0 t).mpr h0) (fun h => h1 ((hcond0_1 t).mp h)) (fun h => h2 ((hcond0_2 t).mp h)) (X0_0 m c t) (iblk m c 1 t)).2.2 _ Set.univ _)
        isplitl [H0]; · iexact H0
        isplitl [H1]; · iexact H1
        isplitl [H2]; · iexists _; iexact H2
        isplitl [H3]; · iexact H3
        iintro ⟨H0, H1, ⟨%e2, H2⟩, H3⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _)
        iexists _; iexact H3
  · by_cases h1 : 12 ≤ t.val
    · by_cases h2 : t.val % 24 = 12
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1) ((hcond0_2 t).mpr h2)], after0_2]
        rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) ((hcond0_2 t).mpr h2)], after0_3]
        rw [outsAt0_B m c t h0 h1 h2]
        unfold out0_B_2 out0_B_3; (try dsimp only)
        iintro ⟨HΦ, Ho, ⟨%d0, H0⟩, ⟨%d1, H1⟩, ⟨%d2, H2⟩, ⟨%d3, H3⟩⟩
        iapply ((kernelRun0_B c (grid0.coords t) _ _ _ _ _ _ _ _ (fun h => h0 ((hcond0_0 t).mp h)) ((hcond0_1 t).mpr h1) ((hcond0_2 t).mpr h2) (X0_0 m c t) (iblk m c 1 t)).2.2 Set.univ _)
        isplitl [H0]; · iexact H0
        isplitl [H1]; · iexact H1
        isplitl [H2]; · iexists _; iexact H2
        isplitl [H3]; · iexists _; iexact H3
        iintro ⟨H0, H1, ⟨%e2, H2⟩, ⟨%e3, H3⟩⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _)
        unfold owns; iexists _; isplitr
        swap; · iexact H3
        ipureintro; exact View.read_writes_of_cover _ _ _ _ _ (cover0_B_3 c _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1) (fun h => h2 ((hcond0_2 t).mp h))], after0_2]
        rw [leaves0_3_C m c t h0 h1 h2, after0_3]
        rw [outsAt0_C m c t h0 h1 h2]
        simp only [before0_3_C m c t h0 h1 h2]
        unfold out0_C_2 out0_C_3; (try dsimp only)
        iintro ⟨HΦ, Ho, ⟨%d0, H0⟩, ⟨%d1, H1⟩, ⟨%d2, H2⟩, ⟨%d3, H3⟩⟩
        iapply ((kernelRun0_C c (grid0.coords t) _ _ _ _ _ _ _ _ (fun h => h0 ((hcond0_0 t).mp h)) ((hcond0_1 t).mpr h1) (fun h => h2 ((hcond0_2 t).mp h)) (X0_0 m c t) (iblk m c 1 t) _).2.2 Set.univ _)
        isplitl [H0]; · iexact H0
        isplitl [H1]; · iexact H1
        isplitl [H2]; · iexists _; iexact H2
        isplitl [H3]; · iexact H3
        iintro ⟨H0, H1, ⟨%e2, H2⟩, H3⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _)
        iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_PrepIdeal`'s statement (Defs.lean) at any `F` — Proof.lean cites it at `Bits`:
    `theorem Cert.Proof.claim : Cert.Claim := ⟨Cert.PrepIdeal.Gen.facts, fun m ρ _ => Cert.PrepIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.PrepIdeal.Gen

end
-- ==== Proof.PrepArrays.lean ====
module

public import proofs.«01_k».proof.Proof.PrepFrame
public import Idealize.ShloMosaic.Lib.Pipeline.Value

@[expose] public section

set_option maxRecDepth 16384

noncomputable section

/-! What the outputs' arrays hold at the end, block by block. -/

namespace Cert.PrepIdeal.Value

open Cert.PrepIdeal Cert.PrepIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the run's contents for that window after the body (`Gen.outsAt0`: its component 0), read through the window's block. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- … so at a point where case A runs, what its write-back would write is that case's NAMED TERM for the window (`Gen.out0_A_2`: the pieces
    its run found, read back) at the point's memrefs and input blocks, and for an output the case reads back what the point before left (`Gen.outsAt0` at `t - 1`) — by the frame's rewriting lemma for the case. -/
theorem flushed2_A (c : Dev nD) (t : Fin cfg0.N) (h0 : t.val < 12) (h1 : ¬12 ≤ t.val) (h2 : ¬t.val % 24 = 12) :
    (dats m 0 c).flushed 2 t = (cfg0.win 2).cut (grid0.coords t) (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (fun h => h2 ((hcond0_2 t).mp h)) (X0_0 m c t) (iblk m c 1 t)) := by
  simp only [flushed2, outsAt0_A m c t h0 h1 h2]

/-- … so at a point where case B runs, what its write-back would write is that case's NAMED TERM for the window (`Gen.out0_B_2`: the pieces
    its run found, read back) at the point's memrefs and input blocks, and for an output the case reads back what the point before left (`Gen.outsAt0` at `t - 1`) — by the frame's rewriting lemma for the case. -/
theorem flushed2_B (c : Dev nD) (t : Fin cfg0.N) (h0 : ¬t.val < 12) (h1 : 12 ≤ t.val) (h2 : t.val % 24 = 12) :
    (dats m 0 c).flushed 2 t = (cfg0.win 2).cut (grid0.coords t) (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) ((hcond0_2 t).mpr h2) (X0_0 m c t) (iblk m c 1 t)) := by
  simp only [flushed2, outsAt0_B m c t h0 h1 h2]

/-- … so at a point where case C runs, what its write-back would write is that case's NAMED TERM for the window (`Gen.out0_C_2`: the pieces
    its run found, read back) at the point's memrefs and input blocks, and for an output the case reads back what the point before left (`Gen.outsAt0` at `t - 1`) — by the frame's rewriting lemma for the case. -/
theorem flushed2_C (c : Dev nD) (t : Fin cfg0.N) (h0 : ¬t.val < 12) (h1 : 12 ≤ t.val) (h2 : ¬t.val % 24 = 12) :
    (dats m 0 c).flushed 2 t = (cfg0.win 2).cut (grid0.coords t) (out0_C_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (fun h => h2 ((hcond0_2 t).mp h)) (X0_0 m c t) (iblk m c 1 t) (outsAt0 m c (t.val - 1) (Nat.lt_of_le_of_lt (Nat.sub_le _ _) t.isLt)).2) := by
  simp only [flushed2, outsAt0_C m c t h0 h1 h2]

/-- The index map sends distinct grid points to distinct block indices (decided over the 24 points). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S12288x2048.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the run's contents for that window after the body (`Gen.outsAt0`: its component 1), read through the window's block. -/
theorem flushed3 (c : Dev nD) (t : Fin cfg0.N) :
    (dats m 0 c).flushed 3 t = (cfg0.win 3).cut (grid0.coords t) ((outsAt0 m c t.val t.isLt).2) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val < 12) (h1 : ¬12 ≤ t.val) (h2 : ¬t.val % 24 = 12) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (fun h => h2 ((hcond0_2 t).mp h)) (X0_0 m c t) (iblk m c 1 t) (outsAt0 m c (t.val - 1) (Nat.lt_of_le_of_lt (Nat.sub_le _ _) t.isLt)).2) := by
  simp only [flushed3, outsAt0_A m c t h0 h1 h2]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val < 12) (h1 : 12 ≤ t.val) (h2 : t.val % 24 = 12) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) ((hcond0_2 t).mpr h2) (X0_0 m c t) (iblk m c 1 t)) := by
  simp only [flushed3, outsAt0_B m c t h0 h1 h2]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val < 12) (h1 : 12 ≤ t.val) (h2 : ¬t.val % 24 = 12) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (fun h => h2 ((hcond0_2 t).mp h)) (X0_0 m c t) (iblk m c 1 t) (outsAt0 m c (t.val - 1) (Nat.lt_of_le_of_lt (Nat.sub_le _ _) t.isLt)).2) := by
  simp only [flushed3, outsAt0_C m c t h0 h1 h2]

-- no `blocks3`: window 3's index map revisits a block index, or its points could not be enumerated here;
-- the final array is still the frame's `arrAt`, to read with Lib/Pipeline/Value.lean's lemmas by hand

/-- An index that no flushing point's block covers keeps output window 3's array contents at region entry. -/
theorem entry3 (c : Dev nD) (i : S128x2048.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v2_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_1) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0) :=
  (θ_run defs _ _).mono (fun r h c => ⟨post2 m r h c,
      post3 m r h c,
      kept_main_arg0 m r h c⟩)
    (run_main m ρ)

end Cert.PrepIdeal.Value

end
-- ==== Proof.PrepPay.lean ====
/-
  The weight preparation, one grid point: what each stored value is, read at an index over the extended reals.
-/
module

public import proofs.«01_k».proof.Defs
public import proofs.«01_k».proof.Proof.PrepArrays
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrepIdeal.Pay

open Cert.PrepIdeal Cert.PrepIdeal.Gen

theorem pay1_at (x : FVec Ideal S512x2048 .f32) (r : Fin 512) (k : Fin 2048) : k0_pay1 (F := Ideal) x (ix2 r k) = x (ix2 r k) := by
  pointwise [k0_pay1]

theorem pay2_at (x : FVec Ideal S480x2048 .f32) (r : Fin 480) (k : Fin 2048) : k0_pay2 (F := Ideal) x (ix2 r k) = x (ix2 r k) := by
  pointwise [k0_pay2]

theorem pay3_at (x : FVec Ideal S32x2048 .f32) (r : Fin 32) (k : Fin 2048) : k0_pay3 (F := Ideal) x (ix2 r k) = x (ix2 r k) := by
  pointwise [k0_pay3]

theorem pay4_at (x : FVec Ideal S32x2048 .f32) (r : Fin 32) (k : Fin 2048) : k0_pay4 (F := Ideal) x (ix2 r k) = x (ix2 r k) := by
  pointwise [k0_pay4]

theorem pay5_at (r : Fin 96) (k : Fin 2048) : k0_pay5 (F := Ideal) (ix2 r k) = 0 := by
  pointwise [k0_pay5]

/-- A block's rows from its 32nd on, and after them the rows that follow the block. -/
def shifted (x0 : FVec Ideal S512x2048 .f32) (x1 : FVec Ideal S32x2048 .f32) (r : Fin 512) (k : Fin 2048) : EReal :=
  if h : 32 + (r : ℕ) < 512 then x0 (ix2 ⟨32 + r, h⟩ k) else x1 (ix2 ⟨r - 480, by omega⟩ k)

/-- A block's first 32 rows, and zero rows after them. -/
def padded (x0 : FVec Ideal S512x2048 .f32) (r : Fin 128) (k : Fin 2048) : EReal :=
  if h : (r : ℕ) < 32 then x0 (ix2 ⟨r, by omega⟩ k) else 0

section Outs

variable (c : Dev nD) (i : grid0.Coords)

theorem outA (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole)
    (hc0 : cond0_0 i) (hc1 : ¬cond0_1 i) (hc2 : ¬cond0_2 i)
    (x0 : FVec Ideal S512x2048 .f32) (x1 : FVec Ideal S32x2048 .f32) (r : Fin 512) (k : Fin 2048) :
    out0_A_2 (F := Ideal) c i arg1 harg1 arg2 harg2 arg3 harg3 arg4 harg4 hc0 hc1 hc2 x0 x1 (ix2 r k) = x0 (ix2 r k) := by
  frame_out
  rw [pay1_at]

theorem outB (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole)
    (hc0 : ¬cond0_0 i) (hc1 : cond0_1 i) (hc2 : cond0_2 i)
    (x0 : FVec Ideal S512x2048 .f32) (x1 : FVec Ideal S32x2048 .f32) (r : Fin 512) (k : Fin 2048) :
    out0_B_2 (F := Ideal) c i arg1 harg1 arg2 harg2 arg3 harg3 arg4 harg4 hc0 hc1 hc2 x0 x1 (ix2 r k) = shifted x0 x1 r k := by
  frame_out
  canon_tiles x h using (View.cover_of_tiledBy _ ![32, 2048] (by sl_kernel_rfl) _)
  all_goals (
    idx_vars x
    change (r : ℕ) = _ at h0; change (k : ℕ) = _ at h1
    obtain rfl := Fin.ext h1
    obtain ⟨r, hr⟩ := r
    dsimp only at h0
    subst h0
    first | rw [pay2_at] | rw [pay3_at] | rw [pay4_at] | rw [pay5_at]
    pointwise [shifted]
    first | rw [dif_neg (by omega)] | rw [dif_pos (by omega)])

theorem outC (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole)
    (hc0 : ¬cond0_0 i) (hc1 : cond0_1 i) (hc2 : ¬cond0_2 i)
    (x0 : FVec Ideal S512x2048 .f32) (x1 : FVec Ideal S32x2048 .f32) (xo3 : FVec Ideal S128x2048 .bf16) (r : Fin 512) (k : Fin 2048) :
    out0_C_2 (F := Ideal) c i arg1 harg1 arg2 harg2 arg3 harg3 arg4 harg4 hc0 hc1 hc2 x0 x1 xo3 (ix2 r k) = shifted x0 x1 r k := by
  frame_out
  canon_tiles x h using (View.cover_of_tiledBy _ ![32, 2048] (by sl_kernel_rfl) _)
  all_goals (
    idx_vars x
    change (r : ℕ) = _ at h0; change (k : ℕ) = _ at h1
    obtain rfl := Fin.ext h1
    obtain ⟨r, hr⟩ := r
    dsimp only at h0
    subst h0
    first | rw [pay2_at] | rw [pay3_at] | rw [pay4_at] | rw [pay5_at]
    pointwise [shifted]
    first | rw [dif_neg (by omega)] | rw [dif_pos (by omega)])

theorem outB3 (arg1 : Memref sig .tc .vmem S512x2048 .f32) (harg1 : arg1.IsWhole) (arg2 : Memref sig .tc .vmem S32x2048 .f32) (harg2 : arg2.IsWhole) (arg3 : Memref sig .tc .vmem S512x2048 .bf16) (harg3 : arg3.IsWhole) (arg4 : Memref sig .tc .vmem S128x2048 .bf16) (harg4 : arg4.IsWhole)
    (hc0 : ¬cond0_0 i) (hc1 : cond0_1 i) (hc2 : cond0_2 i)
    (x0 : FVec Ideal S512x2048 .f32) (x1 : FVec Ideal S32x2048 .f32) (r : Fin 128) (k : Fin 2048) :
    out0_B_3 (F := Ideal) c i arg1 harg1 arg2 harg2 arg3 harg3 arg4 harg4 hc0 hc1 hc2 x0 x1 (ix2 r k) = padded x0 r k := by
  frame_out
  canon_tiles x h using (View.cover_of_tiledBy _ ![32, 2048] (by sl_kernel_rfl) _)
  all_goals (
    idx_vars x
    change (r : ℕ) = _ at h0; change (k : ℕ) = _ at h1
    obtain rfl := Fin.ext h1
    obtain ⟨r, hr⟩ := r
    dsimp only at h0
    subst h0
    first | rw [pay2_at] | rw [pay3_at] | rw [pay4_at] | rw [pay5_at]
    pointwise [padded])

end Outs

end Cert.PrepIdeal.Pay
-- ==== Proof.PrepRun.lean ====
module

public import proofs.«01_k».proof.Proof.PrepPay

@[expose] public section

set_option maxRecDepth 16384

noncomputable section

/-! The blocks the preparation's points read, as entries of the weight, and what the two output arrays hold after the run. -/

namespace Cert.PrepIdeal.Pay

open Cert.PrepIdeal Cert.PrepIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

/-- The weight's column `j`, which the prepared weights have as a row. -/
def col (w : FVec Ideal S1x2048x12320 .f32) (j : Fin 12320) (k : Fin 2048) : EReal := w (ix3 0 k j)

/-- Where each window's block lies at point `t`. -/
theorem idx : ∀ t : Fin cfg0.N, win0_0.index t = ![t.val, 0] ∧ win0_1.index t = ![16 * (t.val + 1), 0] ∧ win0_2.index t = ![t.val, 0]
    ∧ win0_3.index t = ![0, 0] ∧ t.val < 24 :=
  (by decide +kernel : ∀ t : Fin grid0.N, _)

theorem blk0 (t : Fin cfg0.N) (hn : t.val < 24) (r : Fin 512) (k : Fin 2048) :
    (X0_0 m c t : FVec Ideal S512x2048 .f32) (ix2 r k) = col (m ((c : Thread nD τ).loc main_arg0)) ⟨512 * t.val + r, by omega⟩ k := by
  unfold X0_0 Pipeline.Window.fill
  rw [dif_pos (moved0_0 t _)]
  blk_simp [iblk, idx t]
  entry_read
  pointwise [col]
  blk_ext [idx t]

theorem blk1 (t : Fin cfg0.N) (hn : t.val < 24) (r : Fin 32) (k : Fin 2048) :
    (iblk m c 1 t : FVec Ideal S32x2048 .f32) (ix2 r k) = col (m ((c : Thread nD τ).loc main_arg0)) ⟨512 * (t.val + 1) + r, by omega⟩ k := by
  blk_simp [iblk, idx t]
  entry_read
  pointwise [col]
  blk_ext [idx t]

/-- The prepared weight of the projection: the columns before the step sizes', then those after them. -/
def main (w : FVec Ideal S1x2048x12320 .f32) (R : Fin 12288) (k : Fin 2048) : EReal :=
  if (R : ℕ) < 6144 then col w ⟨R, by omega⟩ k else col w ⟨R + 32, by omega⟩ k

/-- The prepared weight of the step sizes: their columns, then zero rows. -/
def steps (w : FVec Ideal S1x2048x12320 .f32) (R : Fin 128) (k : Fin 2048) : EReal :=
  if h : (R : ℕ) < 32 then col w ⟨6144 + R, by omega⟩ k else 0

theorem shifted_at (t : Fin cfg0.N) (hn : t.val < 24) (h1 : 12 ≤ t.val) (r : Fin 512) (k : Fin 2048) :
    shifted (X0_0 m c t) (iblk m c 1 t) r k = main (m ((c : Thread nD τ).loc main_arg0)) ⟨512 * t.val + r, by omega⟩ k := by
  unfold shifted main
  rw [if_neg (by dsimp only; omega)]
  split
  · rw [blk0 m c t hn]
    refine congrArg (fun j => col _ j k) (Fin.ext ?_)
    dsimp only
    omega
  · rw [blk1 m c t hn]
    refine congrArg (fun j => col _ j k) (Fin.ext ?_)
    dsimp only
    omega

theorem out2 (t : Fin cfg0.N) (hn : t.val < 24) (r : Fin 512) (k : Fin 2048) :
    (outsAt0 m c t.val t.isLt).1 (ix2 r k) = main (m ((c : Thread nD τ).loc main_arg0)) ⟨512 * t.val + r, by omega⟩ k := by
  by_cases h0 : t.val < 12
  · rw [outsAt0_A m c t h0 (by omega) (by omega)]
    dsimp only
    rw [outA, blk0 m c t hn]
    unfold main
    rw [if_pos (by dsimp only; omega)]
  · have h1 : 12 ≤ t.val := by omega
    by_cases h2 : t.val % 24 = 12
    · rw [outsAt0_B m c t h0 h1 h2]
      dsimp only
      rw [outB]
      exact shifted_at m c t hn h1 r k
    · rw [outsAt0_C m c t h0 h1 h2]
      dsimp only
      rw [outC]
      exact shifted_at m c t hn h1 r k

theorem out3 : ∀ (n : ℕ) (t : Fin cfg0.N), t.val = n → t.val < 24 → 12 ≤ t.val → ∀ r k,
    (outsAt0 m c t.val t.isLt).2 (ix2 r k) = steps (m ((c : Thread nD τ).loc main_arg0)) r k := by
  intro n
  induction n using Nat.strong_induction_on with
  | _ n ih =>
    intro t ht hn h1 r k
    have h0 : ¬ t.val < 12 := by omega
    by_cases h2 : t.val % 24 = 12
    · rw [outsAt0_B m c t h0 h1 h2]
      dsimp only
      rw [outB3]
      unfold padded steps
      have e : t.val = 12 := by omega
      split
      · rw [blk0 m c t hn]
        refine congrArg (fun j => col _ j k) (Fin.ext ?_)
        dsimp only
        omega
      · rfl
    · have hp : t.val - 1 < cfg0.N := by have := t.isLt; omega
      rw [outsAt0_C m c t h0 h1 h2]
      exact ih (t.val - 1) (by omega) ⟨t.val - 1, hp⟩ rfl (by dsimp only; omega) (by dsimp only; omega) r k

def mainAll (w : FVec Ideal S1x2048x12320 .f32) : FVec Ideal S12288x2048 .bf16 := fun y => main w (y 0) (y 1)
def stepsAll (w : FVec Ideal S1x2048x12320 .f32) : FVec Ideal S128x2048 .bf16 := fun y => steps w (y 0) (y 1)

/-- The row of the first output that row `r` of the block of point `n` is. -/
def row (n : ℕ) (hn : n < 24) (r : Fin 512) : Fin 12288 := ⟨512 * n + r, by omega⟩

/-- The first output array after the run. -/
theorem final2 : (dats m 0 c).arrAt 2 cfg0.N = mainAll (m ((c : Thread nD τ).loc main_arg0)) := by
  refine (dats m 0 c).arrAt_eq_of_covers 2 _ (by decide +kernel) fun t hf y => ?_
  have hn := (idx t).2.2.2.2
  blk_simp
  rw [after0_2]
  have e := out2 m c t hn (y 0) (y 1)
  rw [← eq_ix2 y] at e
  refine e.trans (congrArg (mainAll _) (a₁ := ix2 (row t.val hn (y 0)) (y 1)) ?_)
  blk_ext [row, idx t]

/-- The second output array after the run. -/
theorem final3 : (dats m 0 c).arrAt 3 cfg0.N = stepsAll (m ((c : Thread nD τ).loc main_arg0)) := by
  refine (dats m 0 c).arrAt_eq_of_covers 3 _ (by decide +kernel) fun t hf y => ?_
  have hn := (idx t).2.2.2.2
  have h := (flush0_3 t).mp hf
  blk_simp
  rw [after0_3]
  have e := out3 m c t.val t rfl hn (by omega) (y 0) (y 1)
  rw [← eq_ix2 y] at e
  refine e.trans (congrArg (stepsAll _) (a₁ := ix2 (y 0) (y 1)) ?_)
  blk_ext [idx t]

end Cert.PrepIdeal.Pay
-- ==== Proof.PrepValue.lean ====
module

public import proofs.«01_k».proof.Defs
public import proofs.«01_k».proof.Proof.Gen.Prep.Frame
public import proofs.«01_k».proof.Proof.Gen.PrepRefIdeal.Run
public import proofs.«01_k».proof.Proof.Gen.PrepRefIdeal.Read
public import proofs.«01_k».proof.Proof.PrepRun

@[expose] public section

set_option maxRecDepth 16384

noncomputable section

/-! The weight preparation's reference, and the claims about the call. -/

namespace Cert.PrepIdeal.Pay

open Cert.PrepRefIdeal.Read Idealize.ShloMosaic Idealize.ShloMosaic.TcCoe Idealize.SL.Sem

local notation "Ideal" => Idealize.ShloMosaic.Ideal

theorem r5 (w : FVec Ideal Cert.PrepIdeal.S1x2048x12320 .f32) : val_main_v5 (F := Ideal) w = mainAll w := by
  funext y
  idx_vars y
  pointwise [val_main_v5, val_main_v4, val_main_v3, val_main_v2, val_main_v1, val_main_v0]
  show _ = main w y0 y1
  unfold main col
  split
  · rfl
  · refine congrArg (fun j => w (ix3 0 y1 j)) (Fin.ext ?_)
    dsimp only
    omega

theorem r9 (w : FVec Ideal Cert.PrepIdeal.S1x2048x12320 .f32) : val_main_v9 (F := Ideal) w = stepsAll w := by
  funext y
  idx_vars y
  pointwise [val_main_v9, val_main_v8, val_main_v7, val_main_v6, val_main_v0, val_main_call0_v0, val_main_c]
  show _ = steps w y0 y1
  unfold steps col
  split
  · rfl
  · show (((0#32 : BitVec 32).toInt : ℝ) : EReal) = 0
    simp

/-- The two programs' texts are the same, so the run over any floats serves the one on bit patterns too. -/
theorem bodies_eq : Cert.Prep.defs₀ (F := Bits) = Cert.PrepIdeal.defs₀ (F := Bits) := by
  unfold Cert.Prep.defs₀ Cert.PrepIdeal.defs₀
  refine congrArg Defs.onTc ?_
  funext l a
  match l, a with
  | ⟨0, _⟩, (t, s) => rfl
  | ⟨_ + 1, h⟩, _ => exact absurd h (Nat.not_lt.2 (Nat.le_add_left _ _))

theorem defs_eq : Cert.Prep.defs (F := Bits) = Cert.PrepIdeal.defs (F := Bits) :=
  congrArg (Pipeline.defs Cert.PrepIdeal.pcfgs) bodies_eq

theorem frame_p : Cert.quiescent_Prep := by
  intro m ρ _
  rw [defs_eq]
  exact Cert.PrepIdeal.Gen.frame (F := Bits) m ρ
theorem frame_i : Cert.quiescent_PrepIdeal := fun m ρ _ => Cert.PrepIdeal.Gen.frame m ρ
theorem frame_r : Cert.quiescent_PrepRefIdeal := fun m ρ _ =>
  (θ_run Cert.PrepRefIdeal.defs _ _).mono (fun r h => ⟨fun c => (by obtain rfl : c = 0 := Subsingleton.elim _ _; exact (h 0).2.2),
      sem_eq_zero_of_no_sems (by decide) r.2⟩)
    (Cert.PrepRefIdeal.Value.run (F := Ideal) m ρ)

/-- At the extended reals the kernel's two results are the reference's. -/
theorem algebraic : Cert.algebraic_PrepIdeal_PrepRefIdeal := by
  intro m ρ m' ρ' _ hagree
  refine ⟨fun c => (Cert.PrepIdeal.Gen.dats m 0 c).arrAt 2 Cert.PrepIdeal.cfg0.N, fun c => (Cert.PrepIdeal.Gen.dats m 0 c).arrAt 3 Cert.PrepIdeal.cfg0.N,
    Cert.PrepIdeal.Value.run_blocks (F := Ideal) m ρ, ?_⟩
  refine (θ_run Cert.PrepRefIdeal.defs _ _).mono (fun _ h c => ?_) (Cert.PrepRefIdeal.Value.run (F := Ideal) m' ρ')
  obtain rfl : c = 0 := Subsingleton.elim _ _
  have g0 := hagree 0
  refine ⟨(h 0).1.trans ?_, (h 0).2.1.trans ?_, (h 0).2.2⟩
  · refine Eq.trans ?_ (final2 m 0).symm
    rw [Cert.PrepRefIdeal.Read.val_main_v5_eq, g0]
    exact r5 _
  · refine Eq.trans ?_ (final3 m 0).symm
    rw [Cert.PrepRefIdeal.Read.val_main_v9_eq, g0]
    exact r9 _

end Cert.PrepIdeal.Pay
-- ==== Proof.InRuns.lean ====
module

public import proofs.«01_k».proof.Proof.Gen.InProjIdeal.Frame
public import proofs.«01_k».proof.Proof.Gen.InProjIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The branch conditions of the body, and the staging and scratch buffers it is run on. -/

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 96 := Nat.lt_of_lt_of_eq t.isLt N_0
    have e0 : (grid0.coords t 0).val = t.val / 6 % 16 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x820820820820820820820820 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S1024x2048 .bf16 := (Memref.whole cc0_stg4_0 : Memref sig .tc .vmem S1024x2048 .bf16).view
/-- One staging buffer of output window 5, through which its contents are stated (`View.read_writes_of_cover`: the
    choice does not matter). -/
abbrev VO0_5 : View sig .tc .vmem S1024x128 .f32 := (Memref.whole cc0_stg5_0 : Memref sig .tc .vmem S1024x128 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x128 .f32 := Memref.whole cc0_scratch1
/-- The scratch `arg8` the kernel carries between points, as a view: what it holds is stated through it. -/
abbrev VS0_0 : View sig .tc .vmem S1024x2048 .bf16 := scM0_0.view
/-- The scratch `arg9` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.InProjIdeal.Gen

end
-- ==== Proof.InRunA.lean ====
module

public import proofs.«01_k».proof.Proof.InRuns

@[expose] public section

set_option maxRecDepth 16384

noncomputable section

/-! The body's run in case A. -/

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 6, … 90: 16 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) :
    Σ' (L4 : List (View.Piece (Elt F) S1024x2048 .bf16)), Σ' (L5 : List (View.Piece (Elt F) S1024x128 .f32)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, ?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.InProjIdeal.Gen

end
-- ==== Proof.InRunB.lean ====
module

public import proofs.«01_k».proof.Proof.InRunA

@[expose] public section

set_option maxRecDepth 16384

noncomputable section

/-! The body's run in case B. -/

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 95: 80 of 96), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) :
    Σ' (L4 : List (View.Piece (Elt F) S1024x2048 .bf16)), Σ' (L5 : List (View.Piece (Elt F) S1024x128 .f32)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xs0 ∗ owns (c : Thread nD τ) arg9 fullShare xs1) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, [], [], [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]
    · iexists _; isplitr; · ipureintro; exact harg8.read_unread _
      iexact HS0
    iexists _; isplitr; · ipureintro; exact harg9.read_unread _
    iexact HS1

end Cert.InProjIdeal.Gen

end
-- ==== Proof.InFrame.lean ====
module

public import proofs.«01_k».proof.Proof.InRunB
public import Idealize.ShloMosaic.Lib.Claim

@[expose] public section

set_option maxRecDepth 16384

noncomputable section

/-! What the buffers hold after each point, and the frame. -/

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (2 stores of `S1024x1024`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) (y : S1024x2048.Idx) :
    ∃ pc ∈ (kernelRun0_A c i arg2 harg2 arg3 harg3 arg4 harg4 arg5 harg5 arg6 harg6 arg7 harg7 arg8 harg8 arg9 harg9 hc0 x0 x1 x2 x3).1, y ∈ pc.1.set :=
  View.cover_of_tiledL (kernelRun0_A c i arg2 harg2 arg3 harg3 arg4 harg4 arg5 harg5 arg6 harg6 arg7 harg7 arg8 harg8 arg9 harg9 hc0 x0 x1 x2 x3).1 S1024x1024.size (by sl_kernel_rfl) y

/-- What case A leaves in output 4's staging buffer: its pieces read back over junk. -/
def out0_A_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) : Vec F S1024x2048 .bf16 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1 x2 x3).1)

/-- Case A's pieces for output 5 tile its block (1 store of `S1024x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) (y : S1024x128.Idx) :
    ∃ pc ∈ (kernelRun0_A c i arg2 harg2 arg3 harg3 arg4 harg4 arg5 harg5 arg6 harg6 arg7 harg7 arg8 harg8 arg9 harg9 hc0 x0 x1 x2 x3).2.1, y ∈ pc.1.set :=
  View.cover_of_tiledL (kernelRun0_A c i arg2 harg2 arg3 harg3 arg4 harg4 arg5 harg5 arg6 harg6 arg7 harg7 arg8 harg8 arg9 harg9 hc0 x0 x1 x2 x3).2.1 S1024x128.size (by sl_kernel_rfl) y

/-- What case A leaves in output 5's staging buffer: its pieces read back over junk. -/
def out0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) : Vec F S1024x128 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3).2.1)

/-- Case A's pieces for scratch `arg8`, which the kernel carries between points, cover it: 1 piece of `S1024x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) (y : S1024x2048.Idx) :
    ∃ pc ∈ (kernelRun0_A c i arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.1 S1024x2048.size (by sl_kernel_rfl) y

/-- What case A leaves in scratch `arg8`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3).2.2.1)

/-- Case A's pieces for scratch `arg9`, which the kernel carries between points, cover it: 1 piece of `S1024x128` tiling it (Lib/Ring.lean `Piece.tiledL`). -/
theorem scover0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) (y : S1024x128.Idx) :
    ∃ pc ∈ (kernelRun0_A c i arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 x0 x1 x2 x3).2.2.2.1 S1024x128.size (by sl_kernel_rfl) y

/-- What case A leaves in scratch `arg9`: its pieces read back over junk. -/
def sout0_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : cond0_0 i)
    (x0 : Vec F S1024x2048 .f32) (x1 : Vec F S1x2048 .f32) (x2 : Vec F S2048x2048 .bf16) (x3 : Vec F S128x2048 .bf16) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1 x2 x3).2.2.2.1)

/-- Case B's pieces for output 4 tile its block (2 stores of `S1024x1024`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) (y : S1024x2048.Idx) :
    ∃ pc ∈ (kernelRun0_B c i arg2 harg2 arg3 harg3 arg4 harg4 arg5 harg5 arg6 harg6 arg7 harg7 arg8 harg8 arg9 harg9 hc0 x0 x1 x2 x3 xo5 xs0 xs1).1, y ∈ pc.1.set :=
  View.cover_of_tiledL (kernelRun0_B c i arg2 harg2 arg3 harg3 arg4 harg4 arg5 harg5 arg6 harg6 arg7 harg7 arg8 harg8 arg9 harg9 hc0 x0 x1 x2 x3 xo5 xs0 xs1).1 S1024x1024.size (by sl_kernel_rfl) y

/-- What case B leaves in output 4's staging buffer: its pieces read back over junk. -/
def out0_B_4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) : Vec F S1024x2048 .bf16 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 x2 x3 xo5 xs0 xs1).1)

/-- Case B stores nothing into output 5, a live window: its staging buffer holds what the point before left. -/
def out0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) : Vec F S1024x128 .f32 := xo5

/-- Case B stores nothing into scratch `arg8`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) : Vec F S1024x2048 .bf16 := xs0

/-- Case B stores nothing into scratch `arg9`: it holds what the point before left. -/
def sout0_B_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole) (hc0 : ¬cond0_0 i)
    (x0 : Vec F S1024x2048 .f32) (x1 : Vec F S1x2048 .f32) (x2 : Vec F S2048x2048 .bf16) (x3 : Vec F S128x2048 .bf16) (xo5 : Vec F S1024x128 .f32) (xs0 : Vec F S1024x2048 .bf16) (xs1 : Vec F S1024x128 .f32) : Vec F S1024x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x2048 .bf16 × Vec F S1024x128 .f32 × Vec F S1024x2048 .bf16 × Vec F S1024x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 6 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 6 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 6 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 96 := lt_of_lt_of_eq t.isLt (show cfg0.N = 96 from N_0)
  rw [after0_5, after0_5]
  by_cases h0 : t.val % 6 = 0
  · rw [liveAt0_5_A t ((hcond0_0 t).mpr h0)] at hi
    exact absurd hi Bool.false_ne_true
  · rw [outsAt0_B m c t h0]; dsimp only; unfold out0_B_5; rfl
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 6 = 0) (d) :
    (dats m 0 c).before 5 t d = (outsAt0 m c (t.val - 1) (Nat.lt_of_le_of_lt (Nat.sub_le _ _) t.isLt)).2.1 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- A buffer held at the same contents whatever the witness is held at those contents. -/
theorem exists_same {α : Type _} (a : α) (P : sProp 𝕄) : iprop(∃ _ : α, P) = P := by
  refine Idealize.SL.BI.Entails.antisymm (show iprop(∃ _ : α, P) ⊢ P from ?_) (show P ⊢ iprop(∃ _ : α, P) from ?_)
  · iintro ⟨%d, H⟩; iexact H
  · iintro H; iexists a; iexact H

/-- At a point of case B the body leaves output 5's buffer as it found it, and what it found is what the block's first point left:
    the same whether the point writes the block back or not. -/
theorem leaves0_5_B (c : Dev nD) (t : Fin cfg0.N) (h0 : ¬t.val % 6 = 0) :
    (dats m 0 c).leavesExact 5 t = owns (c : Thread nD τ) (ms0_5 t) fullShare ((dats m 0 c).after 5 t) := by
  have hb : ∀ d, (dats m 0 c).before 5 t d = (dats m 0 c).after 5 t := fun d => by
    rw [before0_5_B m c t h0 d, after0_5, outsAt0_B m c t h0]; rfl
  unfold Dat.leavesExact
  rw [idleAt0_5_B t (fun h => h0 ((hcond0_0 t).mp h))]
  cases (cfg0.win 5).flush t
  · dsimp only
    simp only [hb]
    exact exists_same ((dats m 0 c).after 5 t) _
  · rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 96 := lt_of_lt_of_eq t.isLt (show cfg0.N = 96 from N_0)
  by_cases h0 : t.val % 6 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_4 out0_A_5 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _)
    · rw [PhiS_castSucc m c t, PhiS_pos m c _ _ hz]
      rw [outsAt0_A m c t h0]
      unfold out0_A_4 out0_A_5 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [leaves0_5_B m c t h0, after0_5]
    by_cases hz : t.val = 0
    · exfalso; have hN : t.val < 96 := lt_of_lt_of_eq t.isLt (show cfg0.N = 96 from N_0); omega
    · rw [PhiS_castSucc m c t, PhiS_pos m c _ _ hz]
      rw [outsAt0_B m c t h0]
      simp only [before0_5_B m c t h0]
      unfold out0_B_4 out0_B_5 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _)
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_InProjIdeal`'s statement (Defs.lean) at any `F` — Proof.lean cites it at `Bits`:
    `theorem Cert.Proof.claim : Cert.Claim := ⟨Cert.InProjIdeal.Gen.facts, fun m ρ _ => Cert.InProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InProjIdeal.Gen

end
-- ==== Proof.InArrays.lean ====
module

public import proofs.«01_k».proof.Proof.InFrame
public import Idealize.ShloMosaic.Lib.Pipeline.Value

@[expose] public section

set_option maxRecDepth 16384

noncomputable section

/-! What the outputs' arrays hold at the end, block by block. -/

namespace Cert.InProjIdeal.Value

open Cert.InProjIdeal Cert.InProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 6 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 6 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed4, outsAt0_B m c t h0]

/-- The index map sends distinct grid points to distinct block indices (decided over the 96 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S16384x12288.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 6 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 6 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_B m c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S16384x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

end Cert.InProjIdeal.Value

end
-- ==== Proof.InPay.lean ====
/-
  The in-projection kernel, one grid point: what each stored value is, read at an index over the extended reals.
-/
module

public import proofs.«01_k».proof.Defs
public import proofs.«01_k».proof.Proof.InArrays
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Pay

open Cert.InProjIdeal Cert.InProjIdeal.Gen

/-- The factor of an RMS normalisation: the reciprocal root of a row's mean square plus epsilon. -/
def scale {n : ℕ} (row : Fin n → EReal) : EReal :=
  Ideal.rsqrt (Ideal.div (∑ j, row j * row j) (Ideal.ofBits .f32 0x45000000#32) + Ideal.ofBits .f32 0x3727C5AC#32)

/-- One output block: the rows' products with the weight's rows, each times the row's factor. -/
def full (s : FVec Ideal S1024x128 .f32) (nb : FVec Ideal S1024x2048 .bf16) (w : FVec Ideal S2048x2048 .bf16) :
    FVec Ideal S1024x2048 .bf16 :=
  fun y => (∑ k : Fin 2048, nb (ix2 (y 0) k) * w (ix2 (y 1) k)) * s (ix2 (y 0) 0)

theorem pay1_eq (x : FVec Ideal S1024x2048 .f32) : k0_pay1 (F := Ideal) x = x := by
  funext i
  pointwise [k0_pay1]

theorem pay2_at (x : FVec Ideal S1024x2048 .f32) (r : Fin 1024) (l : Fin 128) :
    k0_pay2 (F := Ideal) x (ix2 r l) = scale (fun j => x (ix2 r j)) := by
  pointwise [k0_pay2, pay1_eq]
  simp only [scale]

theorem pay4_at (x : FVec Ideal S1024x2048 .f32) (g : FVec Ideal S1x2048 .f32) (r : Fin 1024) (k : Fin 2048) :
    k0_pay4 (F := Ideal) x g (ix2 r k) = x (ix2 r k) * g (ix2 0 k) := by
  pointwise [k0_pay4, k0_pay3, pay1_eq]

theorem pay5_at (x : FVec Ideal S1024x2048 .f32) (g : FVec Ideal S1x2048 .f32) (w : FVec Ideal S128x2048 .bf16)
    (s : FVec Ideal S1024x128 .f32) (r : Fin 1024) (l : Fin 128) :
    k0_pay5 (F := Ideal) x g w s (ix2 r l) = (∑ k : Fin 2048, x (ix2 r k) * g (ix2 0 k) * w (ix2 l k)) * s (ix2 r l) := by
  pointwise [k0_pay5, k0_pay3, pay1_eq]

/-- The factor, laid out eight times side by side: a column reads the column of its number modulo 128. -/
theorem pay6_at (s : FVec Ideal S1024x128 .f32) (r : Fin 1024) (l : Fin 1024) :
    k0_pay6 (F := Ideal) s (ix2 r l) = s (ix2 r ⟨l % 128, Nat.mod_lt _ (by decide)⟩) := by
  pointwise [k0_pay6]
  repeat' split
  all_goals (refine congrArg (fun q => s (ix2 r q)) (Fin.ext ?_); dsimp only; omega)

theorem pay7_at (s : FVec Ideal S1024x128 .f32) (nb w : FVec Ideal S1024x2048 .bf16) (r l : Fin 1024) :
    k0_pay7 (F := Ideal) s nb w (ix2 r l)
      = (∑ k : Fin 2048, nb (ix2 r k) * w (ix2 l k)) * s (ix2 r ⟨l % 128, Nat.mod_lt _ (by decide)⟩) := by
  pointwise [k0_pay7, pay6_at]

theorem pay8_at (s : FVec Ideal S1024x128 .f32) (nb w : FVec Ideal S1024x2048 .bf16) (r l : Fin 1024) :
    k0_pay8 (F := Ideal) s nb w (ix2 r l)
      = (∑ k : Fin 2048, nb (ix2 r k) * w (ix2 l k)) * s (ix2 r ⟨l % 128, Nat.mod_lt _ (by decide)⟩) := by
  pointwise [k0_pay8, pay6_at]

/-- Where the strip of 1024 columns that begins at column `o` puts its own entry. -/
theorem emb_at (o : ℕ) (h : ∀ a, (![0, o] : Fin 2 → ℕ) a + (![1024, 1024] : Fin 2 → ℕ) a ≤ S1024x2048.size a) (a b : Fin 1024)
    (hb : o + (b : ℕ) < 2048) :
    (Rect.unit (s := S1024x2048) ![0, o] ![1024, 1024] h).emb (ix2 a b) = ix2 a ⟨o + (b : ℕ), hb⟩ := by
  funext k
  fin_cases k
  · exact Fin.ext (by simp)
  · exact Fin.ext (by simp)

section Outs

variable (c : Dev nD) (i : grid0.Coords)

/-- A later point of a run of six: the block from the scratches. The factor's scratch has equal columns. -/
theorem outB (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole)
    (hc0 : ¬cond0_0 i)
    (x0 : FVec Ideal S1024x2048 .f32) (x1 : FVec Ideal S1x2048 .f32) (x2 : FVec Ideal S2048x2048 .bf16) (x3 : FVec Ideal S128x2048 .bf16)
    (xo5 : FVec Ideal S1024x128 .f32) (xs0 : FVec Ideal S1024x2048 .bf16) (xs1 : FVec Ideal S1024x128 .f32)
    (hs : ∀ r l, xs1 (ix2 r l) = xs1 (ix2 r 0))
    (r : Fin 1024) (j : Fin 2048) :
    out0_B_4 (F := Ideal) c i arg2 harg2 arg3 harg3 arg4 harg4 arg5 harg5 arg6 harg6 arg7 harg7 arg8 harg8 arg9 harg9 hc0 x0 x1 x2 x3 xo5 xs0 xs1 (ix2 r j) = full xs1 xs0 x2 (ix2 r j) := by
  frame_out
  canon_tiles x h
  all_goals (
    idx_vars x
    change (r : ℕ) = _ at h0; change (j : ℕ) = _ at h1
    obtain rfl := Fin.ext h0
    first | rw [pay8_at] | rw [pay7_at]
    obtain ⟨j, hj⟩ := j
    dsimp only at h1
    subst h1
    rw [hs]
    pointwise [full])

/-- The first point of a run: the block from what the point itself puts into the scratches. -/
theorem outA (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole)
    (hc0 : cond0_0 i)
    (x0 : FVec Ideal S1024x2048 .f32) (x1 : FVec Ideal S1x2048 .f32) (x2 : FVec Ideal S2048x2048 .bf16) (x3 : FVec Ideal S128x2048 .bf16)
    (r : Fin 1024) (j : Fin 2048) :
    out0_A_4 (F := Ideal) c i arg2 harg2 arg3 harg3 arg4 harg4 arg5 harg5 arg6 harg6 arg7 harg7 arg8 harg8 arg9 harg9 hc0 x0 x1 x2 x3 (ix2 r j) = full (k0_pay2 x0) (k0_pay4 x0 x1) x2 (ix2 r j) := by
  frame_out
  canon_tiles x h
  all_goals (
    idx_vars x
    change (r : ℕ) = _ at h0; change (j : ℕ) = _ at h1
    obtain rfl := Fin.ext h0
    first | rw [pay8_at] | rw [pay7_at]
    obtain ⟨j, hj⟩ := j
    dsimp only at h1
    subst h1
    pointwise [full, pay2_at])

theorem outA5 (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole)
    (hc0 : cond0_0 i)
    (x0 : FVec Ideal S1024x2048 .f32) (x1 : FVec Ideal S1x2048 .f32) (x2 : FVec Ideal S2048x2048 .bf16) (x3 : FVec Ideal S128x2048 .bf16)
    (r : Fin 1024) (j : Fin 128) :
    out0_A_5 (F := Ideal) c i arg2 harg2 arg3 harg3 arg4 harg4 arg5 harg5 arg6 harg6 arg7 harg7 arg8 harg8 arg9 harg9 hc0 x0 x1 x2 x3 (ix2 r j)
      = (∑ k : Fin 2048, x0 (ix2 r k) * x1 (ix2 0 k) * x3 (ix2 j k)) * scale (fun k => x0 (ix2 r k)) := by
  frame_out
  rw [pay5_at, pay2_at]

theorem soutA0 (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole)
    (hc0 : cond0_0 i)
    (x0 : FVec Ideal S1024x2048 .f32) (x1 : FVec Ideal S1x2048 .f32) (x2 : FVec Ideal S2048x2048 .bf16) (x3 : FVec Ideal S128x2048 .bf16) :
    sout0_A_0 (F := Ideal) c i arg2 harg2 arg3 harg3 arg4 harg4 arg5 harg5 arg6 harg6 arg7 harg7 arg8 harg8 arg9 harg9 hc0 x0 x1 x2 x3 = (k0_pay4 x0 x1 : FVec Ideal S1024x2048 .bf16) := by
  frame_out

theorem soutA1 (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S128x2048 .bf16) (harg5 : arg5.IsWhole) (arg6 : Memref sig .tc .vmem S1024x2048 .bf16) (harg6 : arg6.IsWhole) (arg7 : Memref sig .tc .vmem S1024x128 .f32) (harg7 : arg7.IsWhole) (arg8 : Memref sig .tc .vmem S1024x2048 .bf16) (harg8 : arg8.IsWhole) (arg9 : Memref sig .tc .vmem S1024x128 .f32) (harg9 : arg9.IsWhole)
    (hc0 : cond0_0 i)
    (x0 : FVec Ideal S1024x2048 .f32) (x1 : FVec Ideal S1x2048 .f32) (x2 : FVec Ideal S2048x2048 .bf16) (x3 : FVec Ideal S128x2048 .bf16) :
    sout0_A_1 (F := Ideal) c i arg2 harg2 arg3 harg3 arg4 harg4 arg5 harg5 arg6 harg6 arg7 harg7 arg8 harg8 arg9 harg9 hc0 x0 x1 x2 x3 = (k0_pay2 x0 : FVec Ideal S1024x128 .f32) := by
  frame_out

end Outs

end Cert.InProjIdeal.Pay
-- ==== Proof.InBlocks.lean ====
module

public import proofs.«01_k».proof.Proof.InPay

@[expose] public section

set_option maxRecDepth 16384

noncomputable section

/-! The blocks the in-projection's points read, as entries of the argument arrays, and what the call's two output arrays hold
    after the run: per token, the products of its scaled row with the weight's rows, times the normalisation's factor. -/

namespace Cert.InProjIdeal.Pay

open Cert.InProjIdeal Cert.InProjIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

/-- Token `R`'s entry `k` of the input, four sequences long. -/
def hrow (x : FVec Ideal S4x4096x2048 .f32) (R : Fin 16384) (k : Fin 2048) : EReal :=
  x (ix3 ⟨R / 4096, by omega⟩ ⟨R % 4096, by omega⟩ k)

/-- One entry of a projection as the kernel computes it: the factor stands outside the sum. -/
def proj {E : ℕ} (x : FVec Ideal S4x4096x2048 .f32) (g : FVec Ideal S1x2048 .f32) (w : (⟨2, ![E, 2048]⟩ : Shape).Idx → EReal)
    (R : Fin 16384) (l : Fin E) : EReal :=
  (∑ k : Fin 2048, hrow x R k * g (ix2 0 k) * w (ix2 l k)) * scale (hrow x R)

/-- Where each window's block lies at point `t`. -/
theorem idx : ∀ t : Fin cfg0.N, win0_0.index t = ![t.val / 6, 0] ∧ win0_1.index t = ![0, 0] ∧ win0_2.index t = ![t.val % 6, 0]
    ∧ win0_3.index t = ![0, 0] ∧ win0_4.index t = ![t.val / 6, t.val % 6] ∧ win0_5.index t = ![t.val / 6, 0] ∧ t.val / 6 < 16 :=
  (by decide +kernel : ∀ t : Fin grid0.N, _)

/-- The token that row `r` of the block of point `n` is. -/
def tok (n : ℕ) (hn : n / 6 < 16) (r : Fin 1024) : Fin 16384 := ⟨1024 * (n / 6) + r, by omega⟩

/-- The channel that row `l` of the weight's tile of point `n` is. -/
def chan (n : ℕ) (l : Fin 2048) : Fin 12288 := ⟨2048 * (n % 6) + l, by omega⟩

theorem blk0 (t : Fin cfg0.N) (hn : t.val / 6 < 16) (r : Fin 1024) (k : Fin 2048) :
    (iblk m c 0 t : FVec Ideal S1024x2048 .f32) (ix2 r k) = hrow (m ((c : Thread nD τ).loc main_arg0)) (tok t.val hn r) k := by
  blk_simp [iblk, idx t]
  entry_read
  pointwise [hrow, tok]
  blk_ext [idx t]

theorem blk1 (t : Fin cfg0.N) (k : Fin 2048) :
    (iblk m c 1 t : FVec Ideal S1x2048 .f32) (ix2 0 k) = m ((c : Thread nD τ).loc main_arg1) (ix2 0 k) := by
  blk_simp [iblk, idx t]
  entry_read
  pointwise
  blk_ext [idx t]

theorem blk2 (t : Fin cfg0.N) (l k : Fin 2048) :
    (iblk m c 2 t : FVec Ideal S2048x2048 .bf16) (ix2 l k) = m ((c : Thread nD τ).loc main_arg2) (ix2 (chan t.val l) k) := by
  blk_simp [iblk, idx t]
  entry_read
  pointwise [chan]
  blk_ext [idx t]

theorem blk3 (t : Fin cfg0.N) (l : Fin 128) (k : Fin 2048) :
    (iblk m c 3 t : FVec Ideal S128x2048 .bf16) (ix2 l k) = m ((c : Thread nD τ).loc main_arg3) (ix2 l k) := by
  blk_simp [iblk, idx t]
  entry_read
  pointwise
  blk_ext [idx t]

end Cert.InProjIdeal.Pay
-- ==== Proof.InRun.lean ====
module

public import proofs.«01_k».proof.Proof.InBlocks

@[expose] public section

set_option maxRecDepth 16384

noncomputable section

/-! What the buffers hold point by point, and from that the two output arrays. The scratches are filled at the first of the six
    points of a block of tokens and kept at the others. -/

namespace Cert.InProjIdeal.Pay

open Cert.InProjIdeal Cert.InProjIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

theorem tok_pred (n : ℕ) (h : n / 6 < 16) (h' : (n - 1) / 6 < 16) (h0 : ¬ n % 6 = 0) (r : Fin 1024) : tok (n - 1) h' r = tok n h r := by
  unfold tok
  have : (n - 1) / 6 = n / 6 := by omega
  simp only [this]

/-- The first output's block of point `t`, from scratches that hold the gained rows and the factor. -/
theorem full_at (t : Fin cfg0.N) (hn : t.val / 6 < 16) (s : FVec Ideal S1024x128 .f32) (nb : FVec Ideal S1024x2048 .bf16)
    (hs : ∀ r l, s (ix2 r l) = scale (hrow (m ((c : Thread nD τ).loc main_arg0)) (tok t.val hn r)))
    (hb : ∀ r k, nb (ix2 r k) = hrow (m ((c : Thread nD τ).loc main_arg0)) (tok t.val hn r) k * m ((c : Thread nD τ).loc main_arg1) (ix2 0 k))
    (r : Fin 1024) (l : Fin 2048) :
    full s nb (iblk m c 2 t) (ix2 r l)
      = proj (m ((c : Thread nD τ).loc main_arg0)) (m ((c : Thread nD τ).loc main_arg1)) (m ((c : Thread nD τ).loc main_arg2)) (tok t.val hn r) (chan t.val l) := by
  show (∑ k : Fin 2048, nb (ix2 r k) * (iblk m c 2 t : FVec Ideal S2048x2048 .bf16) (ix2 l k)) * s (ix2 r 0) = _
  simp only [hs, hb, blk2 m c t]
  rfl

theorem pay2_blk (t : Fin cfg0.N) (hn : t.val / 6 < 16) (r : Fin 1024) (l : Fin 128) :
    (k0_pay2 (iblk m c 0 t) : FVec Ideal S1024x128 .f32) (ix2 r l) = scale (hrow (m ((c : Thread nD τ).loc main_arg0)) (tok t.val hn r)) := by
  rw [pay2_at]
  simp only [blk0 m c t hn]

theorem pay4_blk (t : Fin cfg0.N) (hn : t.val / 6 < 16) (r : Fin 1024) (k : Fin 2048) :
    (k0_pay4 (iblk m c 0 t) (iblk m c 1 t) : FVec Ideal S1024x2048 .bf16) (ix2 r k)
      = hrow (m ((c : Thread nD τ).loc main_arg0)) (tok t.val hn r) k * m ((c : Thread nD τ).loc main_arg1) (ix2 0 k) := by
  rw [pay4_at, blk0 m c t hn, blk1 m c t]

/-- What the buffers hold after point `t`. -/
theorem outs : ∀ (n : ℕ) (t : Fin cfg0.N), t.val = n → ∀ hn : t.val / 6 < 16,
    (∀ r l, (outsAt0 m c t.val t.isLt).1 (ix2 r l) = proj (m ((c : Thread nD τ).loc main_arg0)) (m ((c : Thread nD τ).loc main_arg1)) (m ((c : Thread nD τ).loc main_arg2)) (tok t.val hn r) (chan t.val l))
    ∧ (∀ r l, (outsAt0 m c t.val t.isLt).2.1 (ix2 r l) = proj (m ((c : Thread nD τ).loc main_arg0)) (m ((c : Thread nD τ).loc main_arg1)) (m ((c : Thread nD τ).loc main_arg3)) (tok t.val hn r) l)
    ∧ (∀ r k, (outsAt0 m c t.val t.isLt).2.2.1 (ix2 r k) = hrow (m ((c : Thread nD τ).loc main_arg0)) (tok t.val hn r) k * m ((c : Thread nD τ).loc main_arg1) (ix2 0 k))
    ∧ (∀ r l, (outsAt0 m c t.val t.isLt).2.2.2 (ix2 r l) = scale (hrow (m ((c : Thread nD τ).loc main_arg0)) (tok t.val hn r))) := by
  intro n
  induction n using Nat.strong_induction_on with
  | _ n ih =>
    intro t ht hn
    by_cases h0 : t.val % 6 = 0
    · rw [outsAt0_A m c t h0]
      dsimp only
      refine ⟨fun r l => ?_, fun r l => ?_, fun r k => ?_, fun r l => ?_⟩
      · rw [outA]
        exact full_at m c t hn _ _ (pay2_blk m c t hn) (pay4_blk m c t hn) r l
      · rw [outA5]
        simp only [blk0 m c t hn, blk1 m c t, blk3 m c t]
        rfl
      · rw [soutA0]
        exact pay4_blk m c t hn r k
      · rw [soutA1]
        exact pay2_blk m c t hn r l
    · have hp : t.val - 1 < cfg0.N := by omega
      have hq : (t.val - 1) / 6 < 16 := by omega
      obtain ⟨-, h5, hb, hs⟩ := ih (t.val - 1) (by omega) ⟨t.val - 1, hp⟩ rfl hq
      dsimp only at h5 hb hs
      simp only [tok_pred t.val hn hq h0] at h5 hb hs
      rw [outsAt0_B m c t h0]
      refine ⟨fun r l => ?_, h5, hb, hs⟩
      dsimp only
      rw [outB _ _ _ _ _ _ _ _ _ _ _ _ _ _ _ _ _ _ _ _ _ _ _ _ _ _ (fun r l => (hs r l).trans (hs r 0).symm)]
      exact full_at m c t hn _ _ hs hb r l

/-- The whole first output: every token's projection. -/
def projAll (x : FVec Ideal S4x4096x2048 .f32) (g : FVec Ideal S1x2048 .f32) (w : FVec Ideal S12288x2048 .bf16) : FVec Ideal S16384x12288 .bf16 :=
  fun y => proj x g w (y 0) (y 1)

/-- The whole second output: every token's raw time steps. -/
def dtAll (x : FVec Ideal S4x4096x2048 .f32) (g : FVec Ideal S1x2048 .f32) (w : FVec Ideal S128x2048 .bf16) : FVec Ideal S16384x128 .f32 :=
  fun y => proj x g w (y 0) (y 1)

/-- The first output array after the run. -/
theorem final4 : (dats m 0 c).arrAt 4 cfg0.N = projAll (m ((c : Thread nD τ).loc main_arg0)) (m ((c : Thread nD τ).loc main_arg1)) (m ((c : Thread nD τ).loc main_arg2)) := by
  refine (dats m 0 c).arrAt_eq_of_covers 4 _ (by decide +kernel) fun t hf y => ?_
  have hn := (idx t).2.2.2.2.2.2
  blk_simp
  rw [after0_4]
  have e := (outs m c t.val t rfl hn).1 (y 0) (y 1)
  rw [← eq_ix2 y] at e
  refine e.trans (congrArg (projAll _ _ _) (a₁ := ix2 (tok t.val hn (y 0)) (chan t.val (y 1))) ?_)
  blk_ext [tok, chan, idx t]

/-- The second output array after the run. -/
theorem final5 : (dats m 0 c).arrAt 5 cfg0.N = dtAll (m ((c : Thread nD τ).loc main_arg0)) (m ((c : Thread nD τ).loc main_arg1)) (m ((c : Thread nD τ).loc main_arg3)) := by
  refine (dats m 0 c).arrAt_eq_of_covers 5 _ (by decide +kernel) fun t hf y => ?_
  have hn := (idx t).2.2.2.2.2.2
  blk_simp
  rw [after0_5]
  have e := (outs m c t.val t rfl hn).2.1 (y 0) (y 1)
  rw [← eq_ix2 y] at e
  refine e.trans (congrArg (dtAll _ _ _) (a₁ := ix2 (tok t.val hn (y 0)) (y 1)) ?_)
  blk_ext [tok, idx t]

end Cert.InProjIdeal.Pay
-- ==== Proof.Real.lean ====
module

public import Idealize.ShloMosaic.Lib.IdealHost
public import Idealize.ShloMosaic.Lib.ReduceAll
public import Idealize.ShloMosaic.Lib.Pointwise
public import Mathlib.Analysis.SpecialFunctions.Trigonometric.DerivHyp

@[expose] public section

noncomputable section

/-! Finite extended reals: what the preconditions give, what keeps them finite, and the identity of the two ways the SiLU
    activation is computed. -/

namespace Cert.Fin

open Idealize.ShloMosaic

/-- A finite extended real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, by norm_cast⟩

theorem IsReal.add {x y : EReal} (hx : IsReal x) (hy : IsReal y) : IsReal (x + y) := by
  obtain ⟨a, rfl⟩ := hx; obtain ⟨b, rfl⟩ := hy
  exact ⟨a + b, by norm_cast⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem half : Ideal.ofBits .f32 0x3F000000#32 = ((1 / 2 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

theorem infinity : Ideal.ofBits .f32 0x7F800000#32 = ⊤ := by
  simp [Ideal.ofBits, Ideal.ieee]

theorem eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]
  norm_num

/-- The reciprocal root of a mean of squares plus epsilon is finite. -/
theorem rsqrt_mean {n : ℕ} (row : Fin n → EReal) (h : ∀ j, IsReal (row j)) :
    IsReal (Ideal.rsqrt (Ideal.div (∑ j, row j * row j) (Ideal.ofBits .f32 0x45000000#32) + Ideal.ofBits .f32 0x3727C5AC#32)) := by
  choose a ha using h
  obtain ⟨e, he, hE⟩ := eps
  have hs : ∑ j, row j * row j = ((∑ j, a j * a j : ℝ) : EReal) := by
    simp only [ha, ← EReal.coe_mul]
    exact (map_sum (⟨⟨Real.toEReal, rfl⟩, EReal.coe_add⟩ : ℝ →+ EReal) _ _).symm
  have h0 : 0 ≤ ∑ j, a j * a j := Finset.sum_nonneg fun j _ => mul_self_nonneg _
  rw [hs, hE, width, Ideal.div, if_neg (by norm_num), ← EReal.coe_inv, ← EReal.coe_mul, ← EReal.coe_add]
  have hp : 0 < (∑ j, a j * a j) * (2048 : ℝ)⁻¹ + e := by positivity
  exact ⟨_, (if_neg (by linarith)).trans (if_neg (by linarith))⟩

/-- At a finite argument `h + h * tanh h`, `h` half the argument, is the argument times its logistic. -/
theorem silu {z : EReal} (hz : IsReal z) :
    Ideal.ofBits .f32 0x3F000000#32 * z + Ideal.ofBits .f32 0x3F000000#32 * z * Ideal.tanh (Ideal.ofBits .f32 0x3F000000#32 * z)
      = z * Ideal.logistic z := by
  obtain ⟨r, rfl⟩ := hz
  rw [half, ← EReal.coe_mul, Ideal.logistic_coe]
  show ((1 / 2 * r : ℝ) : EReal) + ((1 / 2 * r : ℝ) : EReal) * ((Real.tanh (1 / 2 * r) : ℝ) : EReal) = _
  rw [← EReal.coe_mul, ← EReal.coe_add, ← EReal.coe_mul]
  congr 1
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (-(1 / 2 * r)) = (Real.exp (1 / 2 * r))⁻¹ := Real.exp_neg _
  have hp := Real.exp_pos (1 / 2 * r)
  rw [e1, e2]
  field_simp
  ring

/-- What one printed test `|x| < inf` says. -/
theorem of_test (x : EReal) (h : Ideal.cmp .olt (max x (-x)) (Ideal.ofBits .f32 0x7F800000#32) = 1#1) : IsReal x := by
  rw [infinity] at h
  induction x with
  | bot => simp [Ideal.cmp] at h
  | coe r => exact ⟨r, rfl⟩
  | top => simp [Ideal.cmp] at h

end Cert.Fin
-- ==== Proof.InRef.lean ====
module

public import proofs.«01_k».proof.Proof.InRun
public import proofs.«01_k».proof.Proof.Real
public import proofs.«01_k».proof.Proof.Gen.InRefIdeal.Read

@[expose] public section

set_option maxRecDepth 16384

noncomputable section

/-! The in-projection's reference, stage by stage, at the extended reals; and the normalisation's factor taken out of the sum. -/

namespace Cert.InProjIdeal.Pay

open Cert.InRefIdeal.Read Idealize.ShloMosaic Idealize.ShloMosaic.TcCoe Idealize.SL.Sem

local notation "Ideal" => Idealize.ShloMosaic.Ideal

/-- A square is not negative, at the infinities too. -/
theorem mul_self_nonneg' (x : EReal) : 0 ≤ x * x := by
  rcases le_total 0 x with h | h
  · exact EReal.mul_nonneg h h
  · exact EReal.mul_nonneg_iff.2 (Or.inr ⟨h, h⟩)

/-- The factor is a nonnegative real whatever the row is: an infinite entry makes it zero. -/
theorem scale_nonneg {n : ℕ} (row : Fin n → EReal) : 0 ≤ scale row ∧ scale row ≠ ⊤ := by
  obtain ⟨e, he, hE⟩ := Cert.Fin.eps
  have hs : 0 ≤ ∑ j, row j * row j := Finset.sum_nonneg fun j _ => mul_self_nonneg' _
  unfold scale
  rw [hE, Cert.Fin.width, Ideal.div, if_neg (by norm_num), ← EReal.coe_inv]
  generalize (∑ j, row j * row j) = S at hs ⊢
  induction S with
  | bot => simp at hs
  | top =>
    rw [EReal.top_mul_coe_of_pos (by norm_num), EReal.top_add_coe]
    exact ⟨le_refl _, EReal.zero_ne_top⟩
  | coe r =>
    have hr : 0 ≤ r := EReal.coe_nonneg.1 hs
    rw [← EReal.coe_mul, ← EReal.coe_add]
    have hp : 0 < r * (2048 : ℝ)⁻¹ + e := by positivity
    have e1 : Ideal.rsqrt ((r * (2048 : ℝ)⁻¹ + e : ℝ) : EReal) = (((Real.sqrt (r * (2048 : ℝ)⁻¹ + e))⁻¹ : ℝ) : EReal) :=
      (if_neg (by linarith)).trans (if_neg (by linarith))
    rw [e1]
    exact ⟨EReal.coe_nonneg.2 (by positivity), EReal.coe_ne_top _⟩

/-- A nonnegative real factor distributes over any finite sum of extended reals. -/
theorem sum_mul_of_nonneg {ι : Type} (s : Finset ι) (f : ι → EReal) {a : EReal} (h : 0 ≤ a) (ht : a ≠ ⊤) :
    (∑ i ∈ s, f i) * a = ∑ i ∈ s, f i * a := by
  classical
  induction s using Finset.induction_on with
  | empty => simp
  | insert b s hb ih => rw [Finset.sum_insert hb, Finset.sum_insert hb, EReal.right_distrib_of_nonneg_of_ne_top h ht, ih]

variable (x : FVec Ideal Cert.InProjIdeal.S4x4096x2048 .f32) (g : FVec Ideal Cert.InProjIdeal.S1x2048 .f32)

/-- The projection with the factor inside the sum, as the reference has it. -/
theorem proj_eq {E : ℕ} (w : (⟨2, ![E, 2048]⟩ : Shape).Idx → EReal) (R : Fin 16384) (l : Fin E) :
    ∑ k : Fin 2048, hrow x R k * scale (hrow x R) * g (ix2 0 k) * w (ix2 l k) = proj x g w R l := by
  unfold proj
  rw [sum_mul_of_nonneg _ _ (scale_nonneg _).1 (scale_nonneg _).2]
  refine Finset.sum_congr rfl fun k _ => ?_
  rw [mul_right_comm (hrow x R k), mul_right_comm _ (scale (hrow x R))]

/-- Token `s` of sequence `b`, numbered through. -/
def tk (b : Fin 4) (s : Fin 4096) : Fin 16384 := ⟨4096 * b + s, by omega⟩

theorem hrow_tk (b : Fin 4) (s : Fin 4096) (k : Fin 2048) : hrow x (tk b s) k = x (ix3 b s k) := by
  unfold hrow tk
  congr 1
  refine congrArg₂ (fun x y => ix3 x y k) (Fin.ext ?_) (Fin.ext ?_) <;> dsimp only <;> omega

theorem r13 (b : Fin 4) (s : Fin 4096) (k : Fin 2048) :
    val_main_v13 (F := Ideal) x g (ix3 b s k) = hrow x (tk b s) k * scale (hrow x (tk b s)) * g (ix2 0 k) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [scale, hrow_tk, zero_add]

theorem r15 (w : FVec Ideal Cert.InProjIdeal.S12288x2048 .bf16) (b : Fin 4) (s : Fin 4096) (l : Fin 12288) :
    val_main_v15 (F := Ideal) x g w (ix3 b s l) = proj x g w (tk b s) l := by
  rw [val_main_v15_apply, ← proj_eq]
  refine Finset.sum_congr rfl fun k _ => ?_
  rw [show lidx_main_v15 (ix3 b s l) k = ix3 b s k from by funext a; fin_cases a <;> rfl,
    show ridx_main_v15 (ix3 b s l) k = ix2 l k from by funext a; fin_cases a <;> rfl, r13]
  rfl

theorem r17 (w : FVec Ideal Cert.InProjIdeal.S128x2048 .bf16) (b : Fin 4) (s : Fin 4096) (l : Fin 128) :
    val_main_v17 (F := Ideal) x g w (ix3 b s l) = proj x g w (tk b s) l := by
  rw [val_main_v17_apply, ← proj_eq]
  refine Finset.sum_congr rfl fun k _ => ?_
  rw [show lidx_main_v17 (ix3 b s l) k = ix3 b s k from by funext a; fin_cases a <;> rfl,
    show ridx_main_v17 (ix3 b s l) k = ix2 l k from by funext a; fin_cases a <;> rfl, r13]
  rfl

theorem r19 (w : FVec Ideal Cert.InProjIdeal.S12288x2048 .bf16) : val_main_v19 (F := Ideal) x g w = projAll x g w := by
  funext y
  idx_vars y
  pointwise [val_main_v19, val_main_v18]
  rw [r15]
  exact congrArg (fun R => proj x g w R y1) (Fin.ext (by unfold tk; dsimp only; show _ = (y0 : ℕ); omega))

theorem r20 (w : FVec Ideal Cert.InProjIdeal.S128x2048 .bf16) : val_main_v20 (F := Ideal) x g w = dtAll x g w := by
  funext y
  idx_vars y
  pointwise [val_main_v20]
  rw [r17]
  exact congrArg (fun R => proj x g w R y1) (Fin.ext (by unfold tk; dsimp only; show _ = (y0 : ℕ); omega))

end Cert.InProjIdeal.Pay
-- ==== Proof.InValue.lean ====
module

public import proofs.«01_k».proof.Defs
public import proofs.«01_k».proof.Proof.Gen.InProj.Frame
public import proofs.«01_k».proof.Proof.Gen.InRefIdeal.Run
public import proofs.«01_k».proof.Proof.Gen.InRefIdeal.Read
public import proofs.«01_k».proof.Proof.InRef

@[expose] public section

set_option maxRecDepth 16384

noncomputable section

/-! The claims about the in-projection call. -/

namespace Cert.InProjIdeal.Pay

open Idealize.ShloMosaic Idealize.ShloMosaic.TcCoe Idealize.SL.Sem

local notation "Ideal" => Idealize.ShloMosaic.Ideal

/-- The two programs' texts are the same, so the run over any floats serves the one on bit patterns too. -/
theorem bodies_eq : Cert.InProj.defs₀ (F := Bits) = Cert.InProjIdeal.defs₀ (F := Bits) := by
  unfold Cert.InProj.defs₀ Cert.InProjIdeal.defs₀
  refine congrArg Defs.onTc ?_
  funext l a
  match l, a with
  | ⟨0, _⟩, (t, s) => rfl
  | ⟨_ + 1, h⟩, _ => exact absurd h (Nat.not_lt.2 (Nat.le_add_left _ _))

theorem defs_eq : Cert.InProj.defs (F := Bits) = Cert.InProjIdeal.defs (F := Bits) :=
  congrArg (Pipeline.defs Cert.InProjIdeal.pcfgs) bodies_eq

theorem frame_p : Cert.quiescent_InProj := by
  intro m ρ _
  rw [defs_eq]
  exact Cert.InProjIdeal.Gen.frame (F := Bits) m ρ
theorem frame_i : Cert.quiescent_InProjIdeal := fun m ρ _ => Cert.InProjIdeal.Gen.frame m ρ
theorem frame_r : Cert.quiescent_InRefIdeal := fun m ρ _ =>
  (θ_run Cert.InRefIdeal.defs _ _).mono (fun r h => ⟨fun c => (by obtain rfl : c = 0 := Subsingleton.elim _ _; exact (h 0).2.2),
      sem_eq_zero_of_no_sems (by decide) r.2⟩)
    (Cert.InRefIdeal.Value.run (F := Ideal) m ρ)

/-- At the extended reals the kernel's two results are the reference's. -/
theorem algebraic : Cert.algebraic_InProjIdeal_InRefIdeal := by
  intro m ρ m' ρ' _ hagree
  refine ⟨fun c => (Cert.InProjIdeal.Gen.dats m 0 c).arrAt 4 Cert.InProjIdeal.cfg0.N, fun c => (Cert.InProjIdeal.Gen.dats m 0 c).arrAt 5 Cert.InProjIdeal.cfg0.N,
    Cert.InProjIdeal.Value.run_blocks (F := Ideal) m ρ, ?_⟩
  refine (θ_run Cert.InRefIdeal.defs _ _).mono (fun _ h c => ?_) (Cert.InRefIdeal.Value.run (F := Ideal) m' ρ')
  obtain rfl : c = 0 := Subsingleton.elim _ _
  obtain ⟨g0, g1, g2, g3⟩ := hagree 0
  refine ⟨(h 0).1.trans ?_, (h 0).2.1.trans ?_, (h 0).2.2⟩
  · refine Eq.trans ?_ (final4 m 0).symm
    rw [Cert.InRefIdeal.Read.val_main_v19_eq, g0, g1, g2]
    exact r19 _ _ _
  · refine Eq.trans ?_ (final5 m 0).symm
    rw [Cert.InRefIdeal.Read.val_main_v20_eq, g0, g1, g3]
    exact r20 _ _ _

end Cert.InProjIdeal.Pay
-- ==== Proof.OutRuns.lean ====
module

public import proofs.«01_k».proof.Proof.Gen.OutProjIdeal.Frame
public import proofs.«01_k».proof.Proof.Gen.OutProjIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! The branch conditions of the body, and the staging and scratch buffers it is run on. -/

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 9, through which its contents are stated (`View.read_writes_of_cover`: the
    choice does not matter). -/
abbrev VO0_9 : View sig .tc .vmem S512x2048 .f32 := (Memref.whole cc0_stg9_0 : Memref sig .tc .vmem S512x2048 .f32).view
/-- Each window's current staging memref at point `t`, spelled as the pipeline passes it (`bodyAt0`), and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x2048 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x2048 .f32 := Memref.whole cc0_scratch0
/-- The scratch `arg11` the kernel carries between points, as a view: what it holds is stated through it. -/
abbrev VS0_0 : View sig .tc .vmem S8x2048 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.OutProjIdeal.Gen

end
-- ==== Proof.OutRunA.lean ====
module

public import proofs.«01_k».proof.Proof.OutRuns

@[expose] public section

set_option maxRecDepth 16384

noncomputable section

/-! The body's run in case A. -/

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) :
    Σ' (L9 : List (View.Piece (Elt F) S512x2048 .f32)), { LS0 : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_out_proj_eq_skeleton]; unfold cc0_out_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

end Cert.OutProjIdeal.Gen

end
-- ==== Proof.OutFrame.lean ====
module

public import proofs.«01_k».proof.Proof.OutRunA
public import Idealize.ShloMosaic.Lib.Claim
public import Idealize.ShloMosaic.Lib.Pipeline.ValueKit
public import Idealize.ShloMosaic.Lib.Pipeline.ReadBack

@[expose] public section

set_option maxRecDepth 16384

noncomputable section

/-! What the buffers hold after each point, and the frame. -/

namespace Cert.OutProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (8 stores of `S512x512`, checked by the kernel's evaluation: Lib/Ring.lean `Piece.tiledL`, linear in the pieces, through a loop's `@[irreducible]` trip theorem too), so they cover it. -/
theorem cover0_A_9 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) (y : S512x2048.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).1 S512x512.size (by sl_kernel_rfl) y

/-- What the run leaves in output 9's staging buffer: its pieces read back over junk. -/
def out0_A_9 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) : Vec F S512x2048 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).1)

/-- The run's pieces for scratch `arg11`, which the kernel carries between points, cover it: 1 piece of `S8x2048` tiling it (Lib/Ring.lean `Piece.tiledL`). -/
theorem scover0_A_0 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) (y : S8x2048.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).2.1 S8x2048.size (by sl_kernel_rfl) y

/-- What the run leaves in scratch `arg11`: its pieces read back over junk. -/
def sout0_A_0 (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) : Vec F S8x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 xs0).2.1)

/-! ## What a point takes from the point before -/

/-- The word that says whether a point opens a sequence: whether its number is a multiple of eight. -/
def opens (i : grid0.Coords) : BitVec 1 :=
  let arg0 : BitVec 32 := BitVec.ofNat 32 (i 0).val
  let v5 : BitVec 1 := Scalar.cmpi .eq 8#32 0#32
  let v6 : BitVec 32 := Scalar.select v5 1#32 8#32
  let v7 : BitVec 32 := Scalar.remsi arg0 v6
  let v8 : BitVec 1 := Scalar.cmpi .ne v7 0#32
  let v9 : BitVec 1 := Scalar.cmpi .slt v7 0#32
  let v10 : BitVec 1 := Scalar.cmpi .slt v6 0#32
  let v11 : BitVec 1 := Scalar.xori v9 v10
  let v12 : BitVec 1 := Scalar.andi v11 v8
  let v13 : BitVec 32 := Scalar.addi v7 v6
  let v14 : BitVec 32 := Scalar.select v12 v13 v7
  Scalar.cmpi .eq v14 0#32

theorem opens_iff : ∀ t : Fin grid0.N, opens (grid0.coords t) = if t.val % 8 = 0 then 1#1 else 0#1 := by decide +kernel

/-- The products with the eight rows that come before them, as the body puts them together. -/
theorem pay6_eq (i : grid0.Coords) (v0 : Vec F S512x2048 .bf16) (v2 : Vec F S512x2048 .bf16) (v16 : Vec F S8x2048 .f32) :
    k0_pay6 i v0 v2 v16 = shapeCast S65x8x2048 (concatenate S520x2048 0 [⟨S8x2048, Scalar.select (opens i) (broadcast S8x2048 (FloatOps.ofBits (F := F) .f32 0x00000000#32)) v16⟩, ⟨S512x2048, k0_pay2 v0 v2⟩] concatenates_S8x2048_S512x2048_S520x2048_d0) shapeCasts_S520x2048_S65x8x2048 := rfl

/-- At the first point of a sequence the rows before it are zero, whatever the scratch holds. -/
theorem pay6_open (t : Fin grid0.N) (h : t.val % 8 = 0) (v0 : Vec F S512x2048 .bf16) (v2 : Vec F S512x2048 .bf16) (v16 v16' : Vec F S8x2048 .f32) :
    k0_pay6 (grid0.coords t) v0 v2 v16 = k0_pay6 (grid0.coords t) v0 v2 v16' := by
  rw [pay6_eq, pay6_eq, opens_iff, if_pos h]
  rfl

theorem pay7_open (t : Fin grid0.N) (h : t.val % 8 = 0) (v0 : Vec F S512x2048 .bf16) (v2 : Vec F S512x2048 .bf16) (v16 v16' : Vec F S8x2048 .f32) (v25 : Vec F S3x2048 .f32) :
    k0_pay7 (grid0.coords t) v0 v2 v16 v25 = k0_pay7 (grid0.coords t) v0 v2 v16' v25 := by
  unfold k0_pay7
  rw [pay6_open t h v0 v2 v16 v16']

/-- What a point leaves in the scratch does not depend on what it found there. -/
theorem sout0_A_0_eq (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : Vec F S512x2048 .bf16) (x1 : Vec F S512x2048 .bf16) (x2 : Vec F S1x2048 .f32) (x3 : Vec F S512x2048 .bf16) (x4 : Vec F S512x2048 .bf16) (x5 : Vec F S512x2048 .bf16) (x6 : Vec F S3x2048 .f32) (x7 : Vec F S4096x2048 .bf16) (x8 : Vec F S512x2048 .f32) (xs0 : Vec F S8x2048 .f32) :
    sout0_A_0 c i arg1 harg1 arg2 harg2 arg3 harg3 arg4 harg4 arg5 harg5 arg6 harg6 arg7 harg7 arg8 harg8 arg9 harg9 arg10 harg10 arg11 harg11 x0 x1 x2 x3 x4 x5 x6 x7 x8 xs0 = k0_pay3 x4 x5 := by
  frame_out

/-! ## What the outputs hold after each point -/

/-- At the first point of a sequence what a point leaves does not depend on what it found in the scratch. -/
theorem out0_A_9_open (c : Dev nD) (t : Fin cfg0.N) (h : t.val % 8 = 0) (d d' : Vec F S8x2048 .f32) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) d = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) d' := by
  frame_open
  rw [pay6_open t h _ _ (View.readAt (Elt F) scM0_0.view (Rect.unit ![0, 0] S8x2048.size inb_S8x2048_S8x2048_0_0).toLoadRect ((Memref.isWhole_whole _).unread d)) (View.readAt (Elt F) scM0_0.view (Rect.unit ![0, 0] S8x2048.size inb_S8x2048_S8x2048_0_0).toLoadRect ((Memref.isWhole_whole _).unread d'))]
  rw [pay7_open t h _ _ (View.readAt (Elt F) scM0_0.view (Rect.unit ![0, 0] S8x2048.size inb_S8x2048_S8x2048_0_0).toLoadRect ((Memref.isWhole_whole _).unread d)) (View.readAt (Elt F) scM0_0.view (Rect.unit ![0, 0] S8x2048.size inb_S8x2048_S8x2048_0_0).toLoadRect ((Memref.isWhole_whole _).unread d'))]

/-- What the scratch holds before point `n`: after a point, the last eight rows of that point's products; before the first, anything. -/
def carry0 (c : Dev nD) : (n : ℕ) → n ≤ cfg0.N → Vec F S8x2048 .f32
  | 0, _ => VS0_0.read (Elt F) VS0_0.junk
  | n + 1, hn => k0_pay3 (iblk m c 4 ⟨n, hn⟩) (iblk m c 5 ⟨n, hn⟩)

/-- What the output's staging buffer and the scratch hold after the body at point `t`: the run's contents at
    the point's memrefs and input blocks. -/
def outsAt0 (c : Dev nD) (t : Fin cfg0.N) : Vec F S512x2048 .f32 × Vec F S8x2048 .f32 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (carry0 m c t.val (Nat.le_of_lt t.isLt)), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (carry0 m c t.val (Nat.le_of_lt t.isLt)))

theorem outsAt0_snd (c : Dev nD) (t : Fin cfg0.N) : (outsAt0 m c t).2 = k0_pay3 (iblk m c 4 t) (iblk m c 5 t) := by
  unfold outsAt0
  dsimp only
  rw [sout0_A_0_eq]

/-- At the first point, whatever the scratch holds. -/
theorem outsAt0_first (c : Dev nD) (t : Fin cfg0.N) (hz : t.val = 0) (d : Vec F S8x2048 .f32) :
    outsAt0 m c t = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) d, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) d) := by
  unfold outsAt0
  rw [out0_A_9_open m c t (by omega) (carry0 m c t.val (Nat.le_of_lt t.isLt)) d, sout0_A_0_eq, sout0_A_0_eq]

/-- At a later point, with what the point before left. -/
theorem outsAt0_next (c : Dev nD) (t : Fin cfg0.N) (hz : t.val ≠ 0) :
    outsAt0 m c t = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (outsAt0 m c ⟨t.val - 1, by omega⟩).2, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (outsAt0 m c ⟨t.val - 1, by omega⟩).2) := by
  have e : (outsAt0 m c ⟨t.val - 1, by omega⟩).2 = carry0 m c t.val (Nat.le_of_lt t.isLt) := by
    rw [outsAt0_snd]
    obtain ⟨n, hn⟩ := t
    cases n with
    | zero => exact absurd rfl hz
    | succ n => rfl
  rw [e]
  unfold outsAt0
  rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c ⟨n, hn⟩).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c ⟨n, hn⟩).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c ⟨n - 1, by omega⟩).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 3200000 in
/-- The body at any point: the inputs' memrefs hold their blocks (`before0_W`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [outsAt0_first m c t hz ds]
    unfold out0_A_9 sout0_A_0; (try dsimp only)
    iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, ⟨%e9, H9⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _)
  · rw [PhiS_castSucc m c t, PhiS_pos m c _ _ hz]
    rw [outsAt0_next m c t hz]
    unfold out0_A_9 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, ⟨%e9, H9⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_OutProjIdeal`'s statement (Defs.lean) at any `F` — Proof.lean cites it at `Bits`:
    `theorem Cert.Proof.claim : Cert.Claim := ⟨Cert.OutProjIdeal.Gen.facts, fun m ρ _ => Cert.OutProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.OutProjIdeal.Gen

end
-- ==== Proof.OutArrays.lean ====
module

public import proofs.«01_k».proof.Proof.OutFrame
public import Idealize.ShloMosaic.Lib.Pipeline.Value

@[expose] public section

set_option maxRecDepth 16384

noncomputable section

/-! What the outputs' arrays hold at the end, block by block. -/

namespace Cert.OutProjIdeal.Value

open Cert.OutProjIdeal Cert.OutProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 9's array: the run's contents for that window after the body (`Gen.outsAt0`: its component 0), read through the window's block. -/
theorem flushed9 (c : Dev nD) (t : Fin cfg0.N) :
    (dats m 0 c).flushed 9 t = (cfg0.win 9).cut (grid0.coords t) ((outsAt0 m c t).1) := by
  show (cfg0.win 9).cut (grid0.coords t) ((dats m 0 c).after 9 t) = _
  rw [after0_9]

/-- The index map sends distinct grid points to distinct block indices (decided over the 32 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c⟩)
    (run_main m ρ)

end Cert.OutProjIdeal.Value

end
-- ==== Proof.OutPay.lean ====
/-
  The out-projection kernel, one grid point: what each stored value is, read at an index over the extended reals.
-/
module

public import proofs.«01_k».proof.Defs
public import proofs.«01_k».proof.Proof.OutArrays
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Pay

open Cert.OutProjIdeal Cert.OutProjIdeal.Gen

/-- The eight rows a point takes from the point before it: zeros at the first point of a sequence. -/
def prev (i : grid0.Coords) (xs : FVec Ideal S8x2048 .f32) (q : Fin 8) (k : Fin 2048) : EReal :=
  if opens i = 1#1 then 0 else xs (ix2 q k)

/-- Row `q` of the eight rows before a block and the block's own products. -/
def rows (i : grid0.Coords) (gc u : FVec Ideal S512x2048 .bf16) (xs : FVec Ideal S8x2048 .f32) (q : Fin 520) (k : Fin 2048) : EReal :=
  if h : (q : ℕ) < 8 then prev i xs ⟨q, h⟩ k else gc (ix2 ⟨q - 8, by omega⟩ k) * u (ix2 ⟨q - 8, by omega⟩ k)

theorem pay2_at (gc u : FVec Ideal S512x2048 .bf16) (r : Fin 512) (k : Fin 2048) :
    k0_pay2 (F := Ideal) gc u (ix2 r k) = gc (ix2 r k) * u (ix2 r k) := by
  pointwise [k0_pay2]

theorem pay3_at (gc u : FVec Ideal S512x2048 .bf16) (q : Fin 8) (k : Fin 2048) :
    k0_pay3 (F := Ideal) gc u (ix2 q k) = gc (ix2 ⟨504 + q, by omega⟩ k) * u (ix2 ⟨504 + q, by omega⟩ k) := by
  pointwise [k0_pay3, pay2_at]

theorem select_at (i : grid0.Coords) (xs : FVec Ideal S8x2048 .f32) (q : Fin 8) (k : Fin 2048) :
    (Scalar.select (opens i) (broadcast S8x2048 (FloatOps.ofBits (F := Ideal) .f32 0x00000000#32)) xs : FVec Ideal S8x2048 .f32) (ix2 q k) = prev i xs q k := by
  unfold prev Scalar.select
  by_cases h : opens i = 1#1
  · rw [if_pos h]
    refine (congrFun (if_pos h) _).trans ?_
    pointwise
  · rw [if_neg h]
    exact congrFun (if_neg h) _

theorem pay6_at (i : grid0.Coords) (gc u : FVec Ideal S512x2048 .bf16) (xs : FVec Ideal S8x2048 .f32) (a : Fin 65) (b : Fin 8) (k : Fin 2048) :
    k0_pay6 (F := Ideal) i gc u xs (ix3 a b k) = rows i gc u xs ⟨a * 8 + b, by omega⟩ k := by
  rw [pay6_eq]
  generalize hs : (Scalar.select (opens i) (broadcast S8x2048 (FloatOps.ofBits (F := Ideal) .f32 0x00000000#32)) xs : FVec Ideal S8x2048 .f32) = s
  have hs' : ∀ q k, s (ix2 q k) = prev i xs q k := fun q k => by rw [← hs]; exact select_at i xs q k
  pointwise [pay2_at, rows, hs']

theorem pay7_at (i : grid0.Coords) (gc u : FVec Ideal S512x2048 .bf16) (xs : FVec Ideal S8x2048 .f32) (w : FVec Ideal S3x2048 .f32) (a : Fin 64) (b : Fin 8) (k : Fin 2048) :
    k0_pay7 (F := Ideal) i gc u xs w (ix3 a b k) = rows i gc u xs ⟨(1 + a) * 8 + b, by omega⟩ k * w (ix2 2 k) := by
  pointwise [k0_pay7, k0_pay5, pay6_at]

/-- A row of the depthwise convolution: the row's products and the two rows' before it, each times its tap. -/
def conv (i : grid0.Coords) (gc u : FVec Ideal S512x2048 .bf16) (xs : FVec Ideal S8x2048 .f32) (w : FVec Ideal S3x2048 .f32) (r : Fin 512) (k : Fin 2048) : EReal :=
  rows i gc u xs ⟨8 + r, by omega⟩ k * w (ix2 2 k) + rows i gc u xs ⟨6 + r, by omega⟩ k * w (ix2 0 k)
    + rows i gc u xs ⟨7 + r, by omega⟩ k * w (ix2 1 k)

theorem sge2 : ∀ b : Fin 8, IntOp.cmpi .sge (BitVec.ofNat 32 b.val) 2#32 = if 2 ≤ b.val then 1#1 else 0#1 := by decide
theorem sge1 : ∀ b : Fin 8, IntOp.cmpi .sge (BitVec.ofNat 32 b.val) 1#32 = if 1 ≤ b.val then 1#1 else 0#1 := by decide

/-- A row rotated within its group of eight, the group of the row or the one before it. -/
theorem rot_at (f : Fin 520 → EReal) (d : ℕ) (r : Fin 512) (v : BitVec 1) (hv : v = if d ≤ (r : ℕ) % 8 then 1#1 else 0#1) (h0 : 1 ≤ d) (h8 : d ≤ 8)
    (h1 : (1 + (r : ℕ) / 8) * 8 + ((r : ℕ) % 8 + 8 - d) % 8 < 520) (h2 : (r : ℕ) / 8 * 8 + ((r : ℕ) % 8 + 8 - d) % 8 < 520) (h3 : 8 - d + (r : ℕ) < 520) :
    Scalar.select v (f ⟨(1 + (r : ℕ) / 8) * 8 + ((r : ℕ) % 8 + 8 - d) % 8, h1⟩) (f ⟨(r : ℕ) / 8 * 8 + ((r : ℕ) % 8 + 8 - d) % 8, h2⟩) = f ⟨8 - d + r, h3⟩ := by
  unfold Scalar.select
  rw [hv]
  by_cases h : d ≤ (r : ℕ) % 8
  · rw [if_pos h]
    refine (if_pos rfl).trans (congrArg f (Fin.ext ?_))
    dsimp only
    omega
  · rw [if_neg h]
    refine (if_neg (by decide)).trans (congrArg f (Fin.ext ?_))
    dsimp only
    omega

theorem pay8_at (i : grid0.Coords) (gb gc u : FVec Ideal S512x2048 .bf16) (xs : FVec Ideal S8x2048 .f32) (w : FVec Ideal S3x2048 .f32) (r : Fin 512) (k : Fin 2048) :
    k0_pay8 (F := Ideal) (k0_pay4 gb) (k0_pay5 w) (k0_pay6 i gc u xs) (iota .tc S64x8x2048 32 [1] iota_S64x8x2048_d1_w32) (k0_pay7 i gc u xs w) 2#32 (ix2 r k)
      = gb (ix2 r k) * conv i gc u xs w r k := by
  pointwise [k0_pay8, k0_pay4, k0_pay5, pay6_at, pay7_at]
  rw [rot_at (fun q => rows i gc u xs q k) 2 r _ (sge2 ⟨(r : ℕ) % 8, by omega⟩) (by omega) (by omega) _ _ (by omega),
    rot_at (fun q => rows i gc u xs q k) 1 r _ (sge1 ⟨(r : ℕ) % 8, by omega⟩) (by omega) (by omega) _ _ (by omega)]
  unfold conv
  have e : (1 + (r : ℕ) / 8) * 8 + (r : ℕ) % 8 = 8 + r := by omega
  have e' : ∀ h h', rows i gc u xs ⟨(1 + (r : ℕ) / 8) * 8 + (r : ℕ) % 8, h⟩ k = rows i gc u xs ⟨8 + r, h'⟩ k := fun h h' =>
    congrArg (fun q => rows i gc u xs q k) (Fin.ext e)
  exact congrArg (fun z => gb (ix2 r k) * (z * w (ix2 2 k) + rows i gc u xs ⟨6 + r, by omega⟩ k * w (ix2 0 k) + rows i gc u xs ⟨7 + r, by omega⟩ k * w (ix2 1 k)))
    (e' (by omega) (by omega))

/-- The state-space branch with its gate. -/
def gate (y z : FVec Ideal S512x2048 .bf16) (r : Fin 512) (k : Fin 2048) : EReal :=
  y (ix2 r k) * (Ideal.ofBits .f32 0x3F000000#32 * z (ix2 r k)
    + Ideal.ofBits .f32 0x3F000000#32 * z (ix2 r k) * Ideal.tanh (Ideal.ofBits .f32 0x3F000000#32 * z (ix2 r k)))

/-- The factor of an RMS normalisation: the reciprocal root of a row's mean square plus epsilon. -/
def scale {n : ℕ} (row : Fin n → EReal) : EReal :=
  Ideal.rsqrt (Ideal.div (∑ j, row j * row j) (Ideal.ofBits .f32 0x45000000#32) + Ideal.ofBits .f32 0x3727C5AC#32)

theorem pay13_at (y z : FVec Ideal S512x2048 .bf16) (r : Fin 512) (k : Fin 2048) : k0_pay13 (F := Ideal) y z (ix2 r k) = gate y z r k := by
  pointwise [k0_pay13]
  simp only [gate]

theorem pay14_at (y z : FVec Ideal S512x2048 .bf16) (g : FVec Ideal S1x2048 .f32) (r : Fin 512) (k : Fin 2048) :
    k0_pay14 (F := Ideal) y z g (ix2 r k) = gate y z r k * g (ix2 0 k) := by
  pointwise [k0_pay14, pay13_at]

theorem pay17_at (y z : FVec Ideal S512x2048 .bf16) (r l : Fin 512) :
    k0_pay17 (F := Ideal) (k0_pay15 y z) k0_pay16 (ix2 r l) = scale (gate y z r) := by
  pointwise [k0_pay17, k0_pay15, k0_pay16, pay13_at]
  simp only [scale]

theorem pay1_at (a : FVec Ideal S512x2048 .bf16) (s o : FVec Ideal S512x512 .f32) (w : FVec Ideal S2048x512 .bf16) (r l : Fin 512) :
    k0_pay1 (F := Ideal) a s o w (ix2 r l) = o (ix2 r l) + s (ix2 r l) * ∑ k : Fin 2048, a (ix2 r k) * w (ix2 k l) := by
  pointwise [k0_pay1]

theorem pay18_at (a : FVec Ideal S512x2048 .bf16) (s n : FVec Ideal S512x1 .f32) (o : FVec Ideal S512x512 .f32) (w : FVec Ideal S2048x512 .bf16) (r l : Fin 512) :
    k0_pay18 (F := Ideal) a s n o w (ix2 r l) = o (ix2 r l) + k0_pay17 s n (ix2 r l) * ∑ k : Fin 2048, a (ix2 r k) * w (ix2 k l) := by
  pointwise [k0_pay18]

theorem pay19_at (a : FVec Ideal S512x2048 .bf16) (s n : FVec Ideal S512x1 .f32) (o : FVec Ideal S512x512 .f32) (w : FVec Ideal S2048x512 .bf16) (r l : Fin 512) :
    k0_pay19 (F := Ideal) a s n o w (ix2 r l) = o (ix2 r l) + k0_pay17 s n (ix2 r l) * ∑ k : Fin 2048, a (ix2 r k) * w (ix2 k l) := by
  pointwise [k0_pay19]

theorem pay20_at (a : FVec Ideal S512x2048 .bf16) (s n : FVec Ideal S512x1 .f32) (o : FVec Ideal S512x512 .f32) (w : FVec Ideal S2048x512 .bf16) (r l : Fin 512) :
    k0_pay20 (F := Ideal) a s n o w (ix2 r l) = o (ix2 r l) + k0_pay17 s n (ix2 r l) * ∑ k : Fin 2048, a (ix2 r k) * w (ix2 k l) := by
  pointwise [k0_pay20]

theorem pay21_eq (o : FVec Ideal S512x512 .f32) : k0_pay21 (F := Ideal) o = o := by
  funext i
  pointwise [k0_pay21]

section Conv

variable (i : grid0.Coords) (gb gc u : FVec Ideal S512x2048 .bf16) (xs : FVec Ideal S8x2048 .f32) (cw : FVec Ideal S3x2048 .f32)
  (o : FVec Ideal S512x512 .f32) (w : FVec Ideal S2048x512 .bf16) (r l : Fin 512)

theorem pay9_at :
    k0_pay9 (F := Ideal) (k0_pay4 gb) (k0_pay5 cw) (k0_pay6 i gc u xs) (iota .tc S64x8x2048 32 [1] iota_S64x8x2048_d1_w32) (k0_pay7 i gc u xs cw) 2#32 o w (ix2 r l)
      = o (ix2 r l) + ∑ k : Fin 2048, gb (ix2 r k) * conv i gc u xs cw r k * w (ix2 k l) := by
  pointwise [k0_pay9]
  exact congrArg (o (ix2 r l) + ·) (Finset.sum_congr rfl fun k _ => congrArg (· * w (ix2 k l)) (pay8_at i gb gc u xs cw r k))

theorem pay10_at :
    k0_pay10 (F := Ideal) (k0_pay4 gb) (k0_pay5 cw) (k0_pay6 i gc u xs) (iota .tc S64x8x2048 32 [1] iota_S64x8x2048_d1_w32) (k0_pay7 i gc u xs cw) 2#32 o w (ix2 r l)
      = o (ix2 r l) + ∑ k : Fin 2048, gb (ix2 r k) * conv i gc u xs cw r k * w (ix2 k l) := by
  pointwise [k0_pay10]
  exact congrArg (o (ix2 r l) + ·) (Finset.sum_congr rfl fun k _ => congrArg (· * w (ix2 k l)) (pay8_at i gb gc u xs cw r k))

theorem pay11_at :
    k0_pay11 (F := Ideal) (k0_pay8 (k0_pay4 gb) (k0_pay5 cw) (k0_pay6 i gc u xs) (iota .tc S64x8x2048 32 [1] iota_S64x8x2048_d1_w32) (k0_pay7 i gc u xs cw) 2#32) o w (ix2 r l)
      = o (ix2 r l) + ∑ k : Fin 2048, gb (ix2 r k) * conv i gc u xs cw r k * w (ix2 k l) := by
  pointwise [k0_pay11]
  exact congrArg (o (ix2 r l) + ·) (Finset.sum_congr rfl fun k _ => congrArg (· * w (ix2 k l)) (pay8_at i gb gc u xs cw r k))

theorem pay12_at :
    k0_pay12 (F := Ideal) (k0_pay8 (k0_pay4 gb) (k0_pay5 cw) (k0_pay6 i gc u xs) (iota .tc S64x8x2048 32 [1] iota_S64x8x2048_d1_w32) (k0_pay7 i gc u xs cw) 2#32) o w (ix2 r l)
      = o (ix2 r l) + ∑ k : Fin 2048, gb (ix2 r k) * conv i gc u xs cw r k * w (ix2 k l) := by
  pointwise [k0_pay12]
  exact congrArg (o (ix2 r l) + ·) (Finset.sum_congr rfl fun k _ => congrArg (· * w (ix2 k l)) (pay8_at i gb gc u xs cw r k))

end Conv

/-- What a point leaves in the output block: the residual, the short convolution's part of the projection, the other branch's part. -/
def full (i : grid0.Coords) (y z : FVec Ideal S512x2048 .bf16) (g : FVec Ideal S1x2048 .f32) (gb gc u : FVec Ideal S512x2048 .bf16)
    (cw : FVec Ideal S3x2048 .f32) (w : FVec Ideal S4096x2048 .bf16) (x : FVec Ideal S512x2048 .f32) (xs : FVec Ideal S8x2048 .f32) : FVec Ideal S512x2048 .f32 :=
  fun q => x q + (∑ k : Fin 2048, gb (ix2 (q 0) k) * conv i gc u xs cw (q 0) k * w (ix2 ⟨2048 + k, by omega⟩ (q 1)))
    + scale (gate y z (q 0)) * ∑ k : Fin 2048, gate y z (q 0) k * g (ix2 0 k) * w (ix2 ⟨k, by omega⟩ (q 1))

theorem full_at (i : grid0.Coords) (y z : FVec Ideal S512x2048 .bf16) (g : FVec Ideal S1x2048 .f32) (gb gc u : FVec Ideal S512x2048 .bf16)
    (cw : FVec Ideal S3x2048 .f32) (w : FVec Ideal S4096x2048 .bf16) (x : FVec Ideal S512x2048 .f32) (xs : FVec Ideal S8x2048 .f32) (r : Fin 512) (j : Fin 2048) :
    full i y z g gb gc u cw w x xs (ix2 r j)
      = x (ix2 r j) + (∑ k : Fin 2048, gb (ix2 r k) * conv i gc u xs cw r k * w (ix2 ⟨2048 + k, by omega⟩ j))
        + scale (gate y z r) * ∑ k : Fin 2048, gate y z r k * g (ix2 0 k) * w (ix2 ⟨k, by omega⟩ j) := rfl

/-- Where the strip of 512 columns that begins at column `o` puts its own entry. -/
theorem emb_at (o : ℕ) (h : ∀ a, (![0, o] : Fin 2 → ℕ) a + (![512, 512] : Fin 2 → ℕ) a ≤ S512x2048.size a) (a : Fin 512) (b : Fin 512)
    (hb : o + (b : ℕ) < 2048) :
    (Rect.unit (s := S512x2048) ![0, o] ![512, 512] h).emb (ix2 a b) = ix2 a ⟨o + (b : ℕ), hb⟩ := by
  funext k
  fin_cases k
  · exact Fin.ext (by simp)
  · exact Fin.ext (by simp)

theorem out_at (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S3x2048 .f32) (harg7 : arg7.IsWhole) (arg8 : Memref sig .tc .vmem S4096x2048 .bf16) (harg8 : arg8.IsWhole) (arg9 : Memref sig .tc .vmem S512x2048 .f32) (harg9 : arg9.IsWhole) (arg10 : Memref sig .tc .vmem S512x2048 .f32) (harg10 : arg10.IsWhole) (arg11 : Memref sig .tc .vmem S8x2048 .f32) (harg11 : arg11.IsWhole)
    (x0 : FVec Ideal S512x2048 .bf16) (x1 : FVec Ideal S512x2048 .bf16) (x2 : FVec Ideal S1x2048 .f32) (x3 : FVec Ideal S512x2048 .bf16) (x4 : FVec Ideal S512x2048 .bf16) (x5 : FVec Ideal S512x2048 .bf16) (x6 : FVec Ideal S3x2048 .f32) (x7 : FVec Ideal S4096x2048 .bf16) (x8 : FVec Ideal S512x2048 .f32) (xs0 : FVec Ideal S8x2048 .f32) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 xs0 = full i x0 x1 x2 x3 x4 x5 x6 x7 x8 xs0 := by
  funext q
  frame_open
  simp (disch := decide) only [↓ View.readCov_skip, ↓ View.readCov_cons_toLoadRect, ↓ View.readCov_fill]
  frame_out
  refine View.canon_append_of_piecesOf (Val := Elt Ideal) (s := S512x2048) (e := .f32) (full i x0 x1 x2 x3 x4 x5 x6 x7 x8 xs0)
    [_, _, _, _] [_, _, _, _] ⟨?_, ?_, ?_, ?_, trivial⟩ _ (View.cover_of_tiledL (s := S512x2048) _ S512x512.size (by sl_kernel_rfl) _)
  · intro q
    idx_vars q
    refine Eq.trans ?_ (congrArg (full i x0 x1 x2 x3 x4 x5 x6 x7 x8 xs0) (emb_at 1536 _ q0 q1 (by omega)).symm)
    rw [pay1_at, pay21_eq, pay12_at, pay17_at]
    pointwise [pay14_at, full]
  · intro q
    idx_vars q
    refine Eq.trans ?_ (congrArg (full i x0 x1 x2 x3 x4 x5 x6 x7 x8 xs0) (emb_at 1024 _ q0 q1 (by omega)).symm)
    rw [pay20_at, pay11_at, pay17_at]
    pointwise [pay14_at, full]
  · intro q
    idx_vars q
    refine Eq.trans ?_ (congrArg (full i x0 x1 x2 x3 x4 x5 x6 x7 x8 xs0) (emb_at 512 _ q0 q1 (by omega)).symm)
    rw [pay19_at, pay10_at, pay17_at]
    pointwise [pay14_at, full]
  · intro q
    idx_vars q
    refine Eq.trans ?_ (congrArg (full i x0 x1 x2 x3 x4 x5 x6 x7 x8 xs0) (emb_at 0 _ q0 q1 (by omega)).symm)
    rw [pay18_at, pay9_at, pay17_at]
    pointwise [pay14_at, full]

end Cert.OutProjIdeal.Pay
-- ==== Proof.OutBlocks.lean ====
module

public import proofs.«01_k».proof.Proof.OutPay

@[expose] public section

set_option maxRecDepth 16384

noncomputable section

/-! The blocks the out-projection call's points read, as entries of the argument arrays. -/

namespace Cert.OutProjIdeal.Pay

open Cert.OutProjIdeal Cert.OutProjIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

/-- Token `R`'s entry `k` of an activation of four sequences. -/
def hrow (h : FVec Ideal S4x4096x2048 .f32) (R : Fin 16384) (k : Fin 2048) : EReal :=
  h (ix3 ⟨R / 4096, by omega⟩ ⟨R % 4096, by omega⟩ k)

/-- Where each window's block lies at point `t`. -/
theorem idx : ∀ t : Fin cfg0.N, win0_0.index t = ![t.val, 0] ∧ win0_1.index t = ![t.val, 0] ∧ win0_2.index t = ![0, 0]
    ∧ win0_3.index t = ![t.val, 3] ∧ win0_4.index t = ![t.val, 4] ∧ win0_5.index t = ![t.val, 5] ∧ win0_6.index t = ![0, 0]
    ∧ win0_7.index t = ![0, 0] ∧ win0_8.index t = ![t.val, 0] ∧ win0_9.index t = ![t.val, 0] ∧ t.val < 32 :=
  (by decide +kernel : ∀ t : Fin grid0.N, _)

/-- The token that row `r` of the block of point `n` is. -/
def tok (n : ℕ) (hn : n < 32) (r : Fin 512) : Fin 16384 := ⟨512 * n + r, by omega⟩

theorem blk0 (t : Fin cfg0.N) (hn : t.val < 32) (r : Fin 512) (k : Fin 2048) :
    (iblk m c 0 t : FVec Ideal S512x2048 .bf16) (ix2 r k) = m ((c : Thread nD τ).loc main_arg0) (ix2 (tok t.val hn r) k) := by
  blk_simp [iblk, idx t]
  entry_read
  pointwise [tok]
  blk_ext [idx t]

theorem blk1 (t : Fin cfg0.N) (hn : t.val < 32) (r : Fin 512) (k : Fin 2048) :
    (iblk m c 1 t : FVec Ideal S512x2048 .bf16) (ix2 r k) = m ((c : Thread nD τ).loc main_arg1) (ix2 (tok t.val hn r) ⟨k, by omega⟩) := by
  blk_simp [iblk, idx t]
  entry_read
  pointwise [tok]
  blk_ext [idx t]

theorem blk2 (t : Fin cfg0.N) (k : Fin 2048) :
    (iblk m c 2 t : FVec Ideal S1x2048 .f32) (ix2 0 k) = m ((c : Thread nD τ).loc main_arg2) (ix2 0 k) := by
  blk_simp [iblk, idx t]
  entry_read
  pointwise
  blk_ext [idx t]

theorem blk3 (t : Fin cfg0.N) (hn : t.val < 32) (r : Fin 512) (k : Fin 2048) :
    (iblk m c 3 t : FVec Ideal S512x2048 .bf16) (ix2 r k) = m ((c : Thread nD τ).loc main_arg1) (ix2 (tok t.val hn r) ⟨6144 + k, by omega⟩) := by
  blk_simp [iblk, idx t]
  entry_read
  pointwise [tok]
  blk_ext [idx t]

theorem blk4 (t : Fin cfg0.N) (hn : t.val < 32) (r : Fin 512) (k : Fin 2048) :
    (iblk m c 4 t : FVec Ideal S512x2048 .bf16) (ix2 r k) = m ((c : Thread nD τ).loc main_arg1) (ix2 (tok t.val hn r) ⟨8192 + k, by omega⟩) := by
  blk_simp [iblk, idx t]
  entry_read
  pointwise [tok]
  blk_ext [idx t]

theorem blk5 (t : Fin cfg0.N) (hn : t.val < 32) (r : Fin 512) (k : Fin 2048) :
    (iblk m c 5 t : FVec Ideal S512x2048 .bf16) (ix2 r k) = m ((c : Thread nD τ).loc main_arg1) (ix2 (tok t.val hn r) ⟨10240 + k, by omega⟩) := by
  blk_simp [iblk, idx t]
  entry_read
  pointwise [tok]
  blk_ext [idx t]

theorem blk6 (t : Fin cfg0.N) (d : Fin 3) (k : Fin 2048) :
    (iblk m c 6 t : FVec Ideal S3x2048 .f32) (ix2 d k) = m ((c : Thread nD τ).loc main_arg3) (ix3 0 d k) := by
  blk_simp [iblk, idx t]
  entry_read
  pointwise
  blk_ext [idx t]

theorem blk7 (t : Fin cfg0.N) (e : Fin 4096) (j : Fin 2048) :
    (iblk m c 7 t : FVec Ideal S4096x2048 .bf16) (ix2 e j) = m ((c : Thread nD τ).loc main_arg4) (ix3 0 e j) := by
  blk_simp [iblk, idx t]
  entry_read
  pointwise
  blk_ext [idx t]

theorem blk8 (t : Fin cfg0.N) (hn : t.val < 32) (r : Fin 512) (k : Fin 2048) :
    (iblk m c 8 t : FVec Ideal S512x2048 .f32) (ix2 r k) = hrow (m ((c : Thread nD τ).loc main_arg5)) (tok t.val hn r) k := by
  blk_simp [iblk, idx t]
  entry_read
  pointwise [hrow, tok]
  blk_ext [idx t]

end Cert.OutProjIdeal.Pay
-- ==== Proof.OutRun.lean ====
module

public import proofs.«01_k».proof.Proof.OutBlocks

@[expose] public section

set_option maxRecDepth 16384

noncomputable section

/-! What the out-projection call's output array holds after the run. The short convolution reaches two rows back: over a block's
    edge through the eight rows kept from the block before, which the first block of a sequence takes as zeros. -/

namespace Cert.OutProjIdeal.Pay

open Cert.OutProjIdeal Cert.OutProjIdeal.Gen Idealize.ShloMosaic Idealize.ShloMosaic.TcCoe Idealize.SL.Sem
open Idealize.ShloMosaic.Pipeline (Dat)

local notation "Ideal" => Idealize.ShloMosaic.Ideal

section Maths

variable (y : FVec Ideal S16384x2048 .bf16) (p : FVec Ideal S16384x12288 .bf16) (g : FVec Ideal S1x2048 .f32)
  (cw : FVec Ideal S1x3x2048 .f32) (w : FVec Ideal S1x4096x2048 .f32) (x : FVec Ideal S4x4096x2048 .f32)

/-- The product of token `R`'s gate and input that the convolution reads. -/
def prod (R : Fin 16384) (k : Fin 2048) : EReal := p (ix2 R ⟨8192 + k, by omega⟩) * p (ix2 R ⟨10240 + k, by omega⟩)

/-- The convolution's input of token `R`, `d` tokens back in its sequence: zero before the sequence's start. -/
def back (d : ℕ) (R : Fin 16384) (k : Fin 2048) : EReal :=
  if (R : ℕ) % 4096 < d then 0 else prod p ⟨R - d, by omega⟩ k

/-- The short convolution of token `R`, gated. -/
def short (R : Fin 16384) (k : Fin 2048) : EReal :=
  p (ix2 R ⟨6144 + k, by omega⟩) * (back p 0 R k * cw (ix3 0 2 k) + back p 2 R k * cw (ix3 0 0 k) + back p 1 R k * cw (ix3 0 1 k))

/-- The half-angle form of the SiLU activation. -/
def hsilu (z : EReal) : EReal :=
  Ideal.ofBits .f32 0x3F000000#32 * z + Ideal.ofBits .f32 0x3F000000#32 * z * Ideal.tanh (Ideal.ofBits .f32 0x3F000000#32 * z)

/-- The state-space branch of token `R` with its gate. -/
def gated (R : Fin 16384) (k : Fin 2048) : EReal := y (ix2 R k) * hsilu (p (ix2 R ⟨k, by omega⟩))

/-- The call's whole result. -/
def mixed : FVec Ideal S16384x2048 .f32 := fun q =>
  hrow x (q 0) (q 1) + (∑ k : Fin 2048, short p cw (q 0) k * w (ix3 0 ⟨2048 + k, by omega⟩ (q 1)))
    + scale (gated y p (q 0)) * ∑ k : Fin 2048, gated y p (q 0) k * g (ix2 0 k) * w (ix3 0 ⟨k, by omega⟩ (q 1))

theorem mixed_at (R : Fin 16384) (j : Fin 2048) :
    mixed y p g cw w x (ix2 R j) = hrow x R j + (∑ k : Fin 2048, short p cw R k * w (ix3 0 ⟨2048 + k, by omega⟩ j))
      + scale (gated y p R) * ∑ k : Fin 2048, gated y p R k * g (ix2 0 k) * w (ix3 0 ⟨k, by omega⟩ j) := rfl

end Maths

variable (m : (ℓ : Loc nD τ sig) → Buf (Elt Ideal) ℓ) (c : Dev nD)

/-- A row the convolution reads at point `t`, at most two rows back. -/
theorem rows_blk (t : Fin cfg0.N) (hn : t.val < 32) (d : ℕ) (hd : d ≤ 2) (r : Fin 512) (k : Fin 2048) (q : Fin 520) (hq : (q : ℕ) = 8 - d + r) :
    rows (grid0.coords t) (iblk m c 4 t) (iblk m c 5 t) (carry0 m c t.val (Nat.le_of_lt t.isLt)) q k
      = back (m ((c : Thread nD τ).loc main_arg1)) d (tok t.val hn r) k := by
  have hv : ((tok t.val hn r : Fin 16384) : ℕ) = 512 * t.val + r := rfl
  unfold rows back
  by_cases h8 : (q : ℕ) < 8
  · rw [dif_pos h8]
    unfold prev
    rw [opens_iff t]
    by_cases h0 : t.val % 8 = 0
    · rw [if_pos h0, if_pos rfl, if_pos (by rw [hv]; omega)]
    · rw [if_neg h0, if_neg (by decide), if_neg (by rw [hv]; omega)]
      obtain ⟨n, hN⟩ := t
      obtain ⟨n, rfl⟩ : ∃ n', n = n' + 1 := ⟨n - 1, by dsimp only at h0; omega⟩
      dsimp only [carry0] at hn hv ⊢
      rw [pay3_at, blk4 m c ⟨n, by omega⟩ (by dsimp only; omega), blk5 m c ⟨n, by omega⟩ (by dsimp only; omega)]
      refine congrArg (fun R => prod (m ((c : Thread nD τ).loc main_arg1)) R k)
        (Fin.ext ?_)
      unfold tok
      dsimp only
      omega
  · rw [dif_neg h8, if_neg (by rw [hv]; omega), blk4 m c t hn, blk5 m c t hn]
    refine congrArg (fun R => prod (m ((c : Thread nD τ).loc main_arg1)) R k)
      (Fin.ext ?_)
    unfold tok
    dsimp only
    omega

/-- What point `t` leaves in its block. -/
theorem out_blk (t : Fin cfg0.N) (hn : t.val < 32) (r : Fin 512) (j : Fin 2048) :
    ((outsAt0 m c t).1 : FVec Ideal S512x2048 .f32) (ix2 r j)
      = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t.val hn r) j) := by
  unfold outsAt0
  dsimp only
  rw [out_at, full_at]
  have hg : gate (iblk m c 0 t) (iblk m c 1 t) r = gated (m ((c : Thread nD τ).loc main_arg0)) (m ((c : Thread nD τ).loc main_arg1)) (tok t.val hn r) := by
    funext k
    unfold gate gated hsilu
    rw [blk0 m c t hn, blk1 m c t hn]
  have hc : ∀ k, conv (grid0.coords t) (iblk m c 4 t) (iblk m c 5 t) (carry0 m c t.val (Nat.le_of_lt t.isLt)) (iblk m c 6 t) r k
      = back (m ((c : Thread nD τ).loc main_arg1)) 0 (tok t.val hn r) k * m ((c : Thread nD τ).loc main_arg3) (ix3 0 2 k)
        + back (m ((c : Thread nD τ).loc main_arg1)) 2 (tok t.val hn r) k * m ((c : Thread nD τ).loc main_arg3) (ix3 0 0 k)
        + back (m ((c : Thread nD τ).loc main_arg1)) 1 (tok t.val hn r) k * m ((c : Thread nD τ).loc main_arg3) (ix3 0 1 k) := by
    intro k
    unfold conv
    rw [rows_blk m c t hn 0 (by omega) r k _ rfl, rows_blk m c t hn 2 (by omega) r k _ rfl, rows_blk m c t hn 1 (by omega) r k _ rfl,
      blk6 m c t, blk6 m c t, blk6 m c t]
  rw [hg, blk8 m c t hn]
  simp only [hc, blk3 m c t hn, blk7 m c t, blk2 m c t]
  rfl

/-- The output array after the run. -/
theorem final : (dats m 0 c).arrAt 9 cfg0.N = mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have hn := (idx t).2.2.2.2.2.2.2.2.2.2
  blk_simp
  rw [after0_9]
  have e := out_blk m c t hn (y 0) (y 1)
  rw [← eq_ix2 y] at e
  refine e.trans (congrArg _ ?_)
  blk_ext [tok, idx t]

end Cert.OutProjIdeal.Pay
-- ==== Proof.OutRef.lean ====
module

public import proofs.«01_k».proof.Proof.OutRun
public import proofs.«01_k».proof.Proof.InRef
public import proofs.«01_k».proof.Proof.Real
public import proofs.«01_k».proof.Proof.Gen.OutRefIdeal.Read

@[expose] public section

set_option maxRecDepth 16384

noncomputable section

/-! The out-projection's reference, stage by stage, at the extended reals: the sum over both branches' channels splits into the
    two the kernel takes, and the normalisation's factor comes out of its branch's sum. -/

namespace Cert.OutProjIdeal.Pay

open Cert.OutRefIdeal.Read Idealize.ShloMosaic Idealize.ShloMosaic.TcCoe Idealize.SL.Sem
open Cert.InProjIdeal.Pay (tk sum_mul_of_nonneg)

local notation "Ideal" => Idealize.ShloMosaic.Ideal

variable (y : FVec Ideal Cert.OutProjIdeal.S16384x2048 .bf16) (p : FVec Ideal Cert.OutProjIdeal.S16384x12288 .bf16) (g : FVec Ideal Cert.OutProjIdeal.S1x2048 .f32)
  (cw : FVec Ideal Cert.OutProjIdeal.S1x3x2048 .f32) (w : FVec Ideal Cert.OutProjIdeal.S1x4096x2048 .f32) (x : FVec Ideal Cert.OutProjIdeal.S4x4096x2048 .f32)

/-- The SiLU activation as the reference computes it. -/
def lsilu (z : EReal) : EReal := z * Ideal.div (Ideal.ofBits .f32 0x3F800000#32) (Ideal.ofBits .f32 0x3F800000#32 + Ideal.exp (-z))

theorem hrow_tk (b : Fin 4) (s : Fin 4096) (k : Fin 2048) : hrow x (tk b s) k = x (ix3 b s k) := by
  unfold hrow tk
  congr 1
  refine congrArg₂ (fun x y => ix3 x y k) (Fin.ext ?_) (Fin.ext ?_) <;> dsimp only <;> omega

theorem r3 (b : Fin 4) (s : Fin 4096) (l : Fin 12288) : val_main_v3 (F := Ideal) p (ix3 b s l) = p (ix2 (tk b s) l) := by
  pointwise [val_main_v3, val_main_v2]
  exact congrArg (fun R => p (ix2 R l)) (Fin.ext (by unfold tk; dsimp only; omega))

theorem r1 (b : Fin 4) (s : Fin 4096) (k : Fin 2048) : val_main_v1 (F := Ideal) y (ix3 b s k) = y (ix2 (tk b s) k) := by
  pointwise [val_main_v1, val_main_v0]
  exact congrArg (fun R => y (ix2 R k)) (Fin.ext (by unfold tk; dsimp only; omega))

theorem r24 (b : Fin 4) (s : Fin 4096) (k : Fin 2048) : val_main_v24 (F := Ideal) p (ix3 b s k) = prod p (tk b s) k := by
  pointwise [val_main_v24, val_main_v6, val_main_v7, r3, prod]

/-- The padded input of the convolution: two rows of zeros before each sequence. -/
theorem r26 (b : Fin 4) (q : Fin 4098) (k : Fin 2048) :
    val_main_v26 (F := Ideal) p (ix3 b q k) = if h : (q : ℕ) < 2 then 0 else prod p (tk b ⟨q - 2, by omega⟩) k := by
  pointwise [val_main_v26, val_main_call1_v0, val_main_c, r24]
  by_cases h : (q : ℕ) < 2
  · rw [dif_pos h]
    refine (dif_neg (by omega)).trans ?_
    show (((0#32 : BitVec 32).toInt : ℝ) : EReal) = 0
    simp
  · rw [dif_neg h]
    exact dif_pos (by omega)

theorem pad_back (b : Fin 4) (s : Fin 4096) (k : Fin 2048) (d : ℕ) (hd : d ≤ 2) (q : Fin 4098) (hq : (q : ℕ) = 2 - d + s) :
    val_main_v26 (F := Ideal) p (ix3 b q k) = back p d (tk b s) k := by
  have hv : ((tk b s : Fin 16384) : ℕ) = 4096 * b + s := rfl
  rw [r26]
  unfold back
  by_cases h : (q : ℕ) < 2
  · rw [dif_pos h, if_pos (by rw [hv]; omega)]
  · rw [dif_neg h, if_neg (by rw [hv]; omega)]
    refine congrArg (prod p · k) (Fin.ext ?_)
    unfold tk
    dsimp only
    omega

theorem r46 (b : Fin 4) (s : Fin 4096) (k : Fin 2048) :
    val_main_v46 (F := Ideal) p cw (ix3 b s k) = back p 0 (tk b s) k * cw (ix3 0 2 k) + back p 2 (tk b s) k * cw (ix3 0 0 k) + back p 1 (tk b s) k * cw (ix3 0 1 k) := by
  rw [← pad_back p b s k 0 (by omega) ⟨2 + s, by omega⟩ rfl, ← pad_back p b s k 2 (by omega) ⟨s, by omega⟩ (by dsimp only; omega),
    ← pad_back p b s k 1 (by omega) ⟨1 + s, by omega⟩ rfl]
  pointwise [val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27, val_main_v25]

theorem r47 (b : Fin 4) (s : Fin 4096) (k : Fin 2048) : val_main_v47 (F := Ideal) p cw (ix3 b s k) = short p cw (tk b s) k := by
  pointwise [val_main_v47, val_main_v5, r3, r46, short]

theorem r9 (hs : ∀ R k, lsilu (p (ix2 R k)) = hsilu (p (ix2 R k))) (b : Fin 4) (s : Fin 4096) (k : Fin 2048) :
    val_main_v9 (F := Ideal) y p (ix3 b s k) = gated y p (tk b s) k := by
  unfold gated
  rw [← hs]
  pointwise [val_main_v9, val_main_v8, val_main_v4, r1, val_main_call0_v5, val_main_call0_v4, val_main_call0_v3, val_main_call0_v2,
    val_main_call0_v1, val_main_call0_v0, val_main_call0_cst, val_main_call0_cst_0, r3, lsilu]

theorem r23 (hs : ∀ R k, lsilu (p (ix2 R k)) = hsilu (p (ix2 R k))) (b : Fin 4) (s : Fin 4096) (k : Fin 2048) :
    val_main_v23 (F := Ideal) y p g (ix3 b s k) = gated y p (tk b s) k * scale (gated y p (tk b s)) * g (ix2 0 k) := by
  pointwise [val_main_v23, val_main_v22, val_main_v21, val_main_v20, val_main_v19, val_main_v18, val_main_v17, val_main_v16, val_main_v15, val_main_v14,
    val_main_v13, val_main_v12, val_main_v11, val_main_v10, val_main_cst, val_main_cst_0, val_main_cst_1, r9 y p hs]
  simp only [scale, zero_add]

/-- The two branches side by side. -/
theorem r48_lo (b : Fin 4) (s : Fin 4096) (k : Fin 2048) :
    val_main_v48 (F := Ideal) y p g cw (ix3 b s ⟨k, by omega⟩) = val_main_v23 (F := Ideal) y p g (ix3 b s k) := by
  pointwise [val_main_v48]

theorem r48_hi (b : Fin 4) (s : Fin 4096) (k : Fin 2048) :
    val_main_v48 (F := Ideal) y p g cw (ix3 b s ⟨2048 + k, by omega⟩) = val_main_v47 (F := Ideal) p cw (ix3 b s k) := by
  pointwise [val_main_v48]

theorem r49 (e : Fin 4096) (j : Fin 2048) : val_main_v49 (F := Ideal) w (ix2 e j) = w (ix3 0 e j) := by
  pointwise [val_main_v49]

/-- The factor taken out of the normalised branch's sum. -/
theorem lo_sum (R : Fin 16384) (j : Fin 2048) :
    ∑ k : Fin 2048, gated y p R k * scale (gated y p R) * g (ix2 0 k) * w (ix3 0 ⟨k, by omega⟩ j)
      = scale (gated y p R) * ∑ k : Fin 2048, gated y p R k * g (ix2 0 k) * w (ix3 0 ⟨k, by omega⟩ j) := by
  have h : 0 ≤ scale (gated y p R) ∧ scale (gated y p R) ≠ ⊤ := Cert.InProjIdeal.Pay.scale_nonneg _
  rw [mul_comm (scale _), sum_mul_of_nonneg _ _ h.1 h.2]
  refine Finset.sum_congr rfl fun k _ => ?_
  rw [mul_right_comm (gated y p R k), mul_right_comm _ (scale (gated y p R))]

theorem r51 (hs : ∀ R k, lsilu (p (ix2 R k)) = hsilu (p (ix2 R k))) (b : Fin 4) (s : Fin 4096) (j : Fin 2048) :
    val_main_v51 (F := Ideal) y p g cw w x (ix3 b s j) = mixed y p g cw w x (ix2 (tk b s) j) := by
  have e : val_main_v50 (F := Ideal) y p g cw w (ix3 b s j)
      = ∑ e : Fin (2048 + 2048), val_main_v48 (F := Ideal) y p g cw (ix3 b s e) * w (ix3 0 e j) := by
    rw [val_main_v50_apply]
    refine Finset.sum_congr rfl fun e _ => ?_
    rw [show lidx_main_v50 (ix3 b s j) e = ix3 b s e from by funext a; fin_cases a <;> rfl,
      show ridx_main_v50 (ix3 b s j) e = ix2 e j from by funext a; fin_cases a <;> rfl, r49]
  rw [val_main_v51_apply, e, Fin.sum_univ_add, mixed_at]
  refine Eq.trans ?_ (add_right_comm _ _ _)
  rw [← lo_sum, ← hrow_tk x]
  refine Eq.trans (add_assoc _ _ _).symm ?_
  refine congrArg₂ (fun u v => hrow x (tk b s) j + u + v) ?_ ?_
  · refine Finset.sum_congr rfl fun k _ => ?_
    rw [← r23 y p g hs, ← r48_lo y p g cw]
    rfl
  · refine Finset.sum_congr rfl fun k _ => ?_
    rw [← r47 p cw, ← r48_hi y p g cw]
    rfl

theorem r52 (hs : ∀ R k, lsilu (p (ix2 R k)) = hsilu (p (ix2 R k))) : val_main_v52 (F := Ideal) y p g cw w x = mixed y p g cw w x := by
  funext q
  idx_vars q
  pointwise [val_main_v52]
  rw [r51 y p g cw w x hs]
  refine congrArg (fun R => mixed y p g cw w x (ix2 R q1)) (Fin.ext ?_)
  unfold tk
  dsimp only
  show _ = (q0 : ℕ)
  omega

end Cert.OutProjIdeal.Pay
-- ==== Proof.OutValue.lean ====
module

public import proofs.«01_k».proof.Defs
public import proofs.«01_k».proof.Proof.Gen.OutProj.Frame
public import proofs.«01_k».proof.Proof.Gen.OutRefIdeal.Run
public import proofs.«01_k».proof.Proof.Gen.OutRefIdeal.Read
public import proofs.«01_k».proof.Proof.Gen.Pre_finite_out
public import proofs.«01_k».proof.Proof.OutRef

@[expose] public section

set_option maxRecDepth 16384

noncomputable section

/-! The claims about the out-projection call. -/

namespace Cert.OutProjIdeal.Pay

open Idealize.ShloMosaic Idealize.ShloMosaic.TcCoe Idealize.SL.Sem Cert.Fin

local notation "Ideal" => Idealize.ShloMosaic.Ideal

/-- The precondition: the projected activations are finite. -/
theorem of_pre (a0 : FVec Ideal Cert.OutProjIdeal.S16384x2048 .bf16) (a1 : FVec Ideal Cert.OutProjIdeal.S16384x12288 .bf16) (a2 : FVec Ideal Cert.OutProjIdeal.S1x2048 .f32)
    (a3 : FVec Ideal Cert.OutProjIdeal.S1x3x2048 .f32) (a4 : FVec Ideal Cert.OutProjIdeal.S1x4096x2048 .f32) (a5 : FVec Ideal Cert.OutProjIdeal.S4x4096x2048 .f32)
    (hp : Cert.Pre_finite_out.fn (F := Ideal) a0 a1 a2 a3 a4 a5 = fun _ => 1#1) : ∀ i, IsReal (a1 i) := by
  have e := congrFun hp (Shape.Idx.first (by decide))
  dsimp only [Cert.Pre_finite_out.fn] at e
  haveI : Subsingleton Cert.Pre_finite_out.S_.Idx := ⟨fun a b => funext fun k => k.elim0⟩
  exact fun i => of_test _ (Host.reduce_andi_all _ _ _ _ _ e i)

/-- At a finite argument the two forms of the activation agree. -/
theorem silu_eq (p : FVec Ideal Cert.OutProjIdeal.S16384x12288 .bf16) (h : ∀ i, IsReal (p i)) (R : Fin 16384) (k : Fin 12288) :
    lsilu (p (ix2 R k)) = hsilu (p (ix2 R k)) := by
  unfold lsilu hsilu
  rw [silu (h _), Ideal.logistic, Ideal.ofBits_one_f32]

/-- The two programs' texts are the same, so the run over any floats serves the one on bit patterns too. -/
theorem bodies_eq : Cert.OutProj.defs₀ (F := Bits) = Cert.OutProjIdeal.defs₀ (F := Bits) := by
  unfold Cert.OutProj.defs₀ Cert.OutProjIdeal.defs₀
  refine congrArg Defs.onTc ?_
  funext l a
  match l, a with
  | ⟨0, _⟩, (t, s) => rfl
  | ⟨_ + 1, h⟩, _ => exact absurd h (Nat.not_lt.2 (Nat.le_add_left _ _))

theorem defs_eq : Cert.OutProj.defs (F := Bits) = Cert.OutProjIdeal.defs (F := Bits) :=
  congrArg (Pipeline.defs Cert.OutProjIdeal.pcfgs) bodies_eq

theorem frame_p : Cert.quiescent_OutProj := by
  intro m ρ _
  rw [defs_eq]
  exact Cert.OutProjIdeal.Gen.frame (F := Bits) m ρ
theorem frame_i : Cert.quiescent_OutProjIdeal := fun m ρ _ => Cert.OutProjIdeal.Gen.frame m ρ
theorem frame_ip : Cert.quiescent_OutProjIdeal_pre_finite_out := fun m ρ _ => Cert.OutProjIdeal.Gen.frame m ρ
theorem frame_r : Cert.quiescent_OutRefIdeal := fun m ρ _ =>
  (θ_run Cert.OutRefIdeal.defs _ _).mono (fun r h => ⟨fun c => (by obtain rfl : c = 0 := Subsingleton.elim _ _; exact (h 0).2),
      sem_eq_zero_of_no_sems (by decide) r.2⟩)
    (Cert.OutRefIdeal.Value.run (F := Ideal) m ρ)
theorem frame_rp : Cert.quiescent_OutRefIdeal_pre_finite_out := fun m ρ _ => frame_r m ρ trivial

/-- At the extended reals the kernel's result is the reference's. -/
theorem algebraic : Cert.algebraic_OutProjIdeal_OutRefIdeal_pre_finite_out := by
  intro m ρ m' ρ' hpre hagree
  refine ⟨fun c => (Cert.OutProjIdeal.Gen.dats m 0 c).arrAt 9 Cert.OutProjIdeal.cfg0.N, Cert.OutProjIdeal.Value.run_blocks (F := Ideal) m ρ, ?_⟩
  refine (θ_run Cert.OutRefIdeal.defs _ _).mono (fun _ h c => ?_) (Cert.OutRefIdeal.Value.run (F := Ideal) m' ρ')
  obtain rfl : c = 0 := Subsingleton.elim _ _
  refine ⟨(h 0).1.trans ?_, (h 0).2⟩
  have h1 := of_pre _ _ _ _ _ _ (hpre 0)
  refine Eq.trans ?_ (final m 0).symm
  rw [Cert.OutRefIdeal.Read.val_main_v52_eq]
  obtain ⟨g0, g1, g2, g3, g4, g5⟩ := hagree 0
  rw [g0, g1, g2, g3, g4, g5]
  exact r52 _ _ _ _ _ _ (silu_eq _ h1)

end Cert.OutProjIdeal.Pay
-- ==== Proof.FfnPay.lean ====
/-
  The feed-forward kernel, one grid point: what each stored payload is, read at an index over the extended reals.
-/
module

public import proofs.«01_k».proof.Defs
public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Pay

open Cert.FfnIdeal Cert.FfnIdeal.Gen

/-- One row of an RMS normalisation: the entry times the reciprocal root of the mean square plus epsilon, times the gain. -/
def rms {n : ℕ} (row : Fin n → EReal) (g : Fin n → EReal) (k : Fin n) : EReal :=
  row k * Ideal.rsqrt (Ideal.div (∑ j, row j * row j) (Ideal.ofBits .f32 0x45000000#32) + Ideal.ofBits .f32 0x3727C5AC#32) * g k

/-- The gate's activation as the kernel computes it: `h + h * tanh h` at half the argument. -/
def hsilu (z : EReal) : EReal :=
  Ideal.ofBits .f32 0x3F000000#32 * z + Ideal.ofBits .f32 0x3F000000#32 * z * Ideal.tanh (Ideal.ofBits .f32 0x3F000000#32 * z)

/-- The activated products of one tile. -/
def act (nb : FVec Ideal S1024x2048 .bf16) (wg wu : FVec Ideal S2048x512 .bf16) (r : Fin 1024) (f : Fin 512) : EReal :=
  hsilu (∑ k : Fin 2048, nb (ix2 r k) * wg (ix2 k f)) * (∑ k : Fin 2048, nb (ix2 r k) * wu (ix2 k f))

/-- What one tile of the hidden axis adds to the output block. -/
def tile (nb : FVec Ideal S1024x2048 .bf16) (wg wu : FVec Ideal S2048x512 .bf16) (wd : FVec Ideal S512x2048 .bf16)
    (r : Fin 1024) (j : Fin 2048) : EReal :=
  ∑ f : Fin 512, act nb wg wu r f * wd (ix2 f j)

theorem pay6_at (nb : FVec Ideal S1024x2048 .bf16) (wg wu : FVec Ideal S2048x512 .bf16) (r : Fin 1024) (f : Fin 512) :
    k0_pay6 (F := Ideal) nb wg wu (ix2 r f) = act nb wg wu r f := by
  pointwise [k0_pay6]
  simp only [act, hsilu, zero_add]

theorem pay7_at (nb : FVec Ideal S1024x2048 .bf16) (wg wu : FVec Ideal S2048x512 .bf16) (o : FVec Ideal S1024x512 .f32)
    (wd : FVec Ideal S512x512 .bf16) (r : Fin 1024) (j : Fin 512) :
    k0_pay7 (F := Ideal) nb wg wu o wd (ix2 r j) = o (ix2 r j) + ∑ f : Fin 512, act nb wg wu r f * wd (ix2 f j) := by
  pointwise [k0_pay7, pay6_at]

theorem pay8_at (nb : FVec Ideal S1024x2048 .bf16) (wg wu : FVec Ideal S2048x512 .bf16) (o : FVec Ideal S1024x512 .f32)
    (wd : FVec Ideal S512x512 .bf16) (r : Fin 1024) (j : Fin 512) :
    k0_pay8 (F := Ideal) nb wg wu o wd (ix2 r j) = o (ix2 r j) + ∑ f : Fin 512, act nb wg wu r f * wd (ix2 f j) := by
  pointwise [k0_pay8, pay6_at]

theorem pay1_at (a : FVec Ideal S1024x512 .bf16) (o : FVec Ideal S1024x512 .f32)
    (wd : FVec Ideal S512x512 .bf16) (r : Fin 1024) (j : Fin 512) :
    k0_pay1 (F := Ideal) a o wd (ix2 r j) = o (ix2 r j) + ∑ f : Fin 512, a (ix2 r f) * wd (ix2 f j) := by
  pointwise [k0_pay1]

theorem pay2_at (a : FVec Ideal S1024x512 .bf16) (o : FVec Ideal S1024x512 .f32)
    (wd : FVec Ideal S512x512 .bf16) (r : Fin 1024) (j : Fin 512) :
    k0_pay2 (F := Ideal) a o wd (ix2 r j) = o (ix2 r j) + ∑ f : Fin 512, a (ix2 r f) * wd (ix2 f j) := by
  pointwise [k0_pay2]

theorem pay3_at (x : FVec Ideal S1024x2048 .f32) (g : FVec Ideal S1x2048 .f32) (r : Fin 1024) (k : Fin 2048) :
    k0_pay3 (F := Ideal) x g (ix2 r k) = rms (fun j => x (ix2 r j)) (fun j => g (ix2 0 j)) k := by
  pointwise [k0_pay3]
  simp only [rms]

theorem pay5_at (x : FVec Ideal S1024x2048 .f32) (g : FVec Ideal S1x2048 .f32) (r : Fin 1024) (k : Fin 2048) :
    k0_pay5 (F := Ideal) x g (ix2 r k) = rms (fun j => x (ix2 r j)) (fun j => g (ix2 0 j)) k := by
  pointwise [k0_pay5, k0_pay4]
  simp only [rms]

theorem pay4_eq (x : FVec Ideal S1024x2048 .f32) : k0_pay4 (F := Ideal) x = x := by
  funext i
  pointwise [k0_pay4]

section Outs

variable (c : Dev nD) (i : grid0.Coords)

/-- An inner point of a run of eleven: what it leaves in the output block. -/
theorem outB (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬cond0_0 i) (hc1 : ¬cond0_1 i)
    (x0 : FVec Ideal S1024x2048 .f32) (x1 : FVec Ideal S1x2048 .f32) (x2 : FVec Ideal S2048x512 .bf16) (x3 : FVec Ideal S2048x512 .bf16) (x4 : FVec Ideal S512x2048 .bf16) (x5 : FVec Ideal S1x2048 .f32) (xo6 : FVec Ideal S1024x2048 .f32) (xs0 : FVec Ideal S1024x2048 .bf16)
    (r : Fin 1024) (j : Fin 2048) :
    out0_B_6 (F := Ideal) c i arg2 harg2 arg3 harg3 arg4 harg4 arg5 harg5 arg6 harg6 arg7 harg7 arg8 harg8 arg9 harg9 hc0 hc1 x0 x1 x2 x3 x4 x5 xo6 xs0 (ix2 r j)
      = xo6 (ix2 r j) + tile xs0 x2 x3 x4 r j := by
  frame_out
  canon_tiles x h
  all_goals (
    idx_vars x
    change (r : ℕ) = _ at h0; change (j : ℕ) = _ at h1
    obtain rfl := Fin.ext h0
    first | rw [pay2_at] | rw [pay1_at] | rw [pay8_at] | rw [pay7_at]
    obtain ⟨j, hj⟩ := j
    dsimp only at h1
    subst h1
    pointwise [pay6_at, tile])

/-- A block plus one tile of the hidden axis. -/
def addTile (x : FVec Ideal S1024x2048 .f32) (nb : FVec Ideal S1024x2048 .bf16) (wg wu : FVec Ideal S2048x512 .bf16) (wd : FVec Ideal S512x2048 .bf16) :
    FVec Ideal S1024x2048 .f32 := fun y => x y + tile nb wg wu wd (y 0) (y 1)

/-- Where the strip of 512 columns that begins at column `o` puts its own entry. -/
theorem emb_at (o : ℕ) (h : ∀ a, (![0, o] : Fin 2 → ℕ) a + (![1024, 512] : Fin 2 → ℕ) a ≤ S1024x2048.size a) (a : Fin 1024) (b : Fin 512)
    (hb : o + (b : ℕ) < 2048) :
    (Rect.unit (s := S1024x2048) ![0, o] ![1024, 512] h).emb (ix2 a b) = ix2 a ⟨o + (b : ℕ), hb⟩ := by
  funext k
  fin_cases k
  · exact Fin.ext (by simp)
  · exact Fin.ext (by simp)

/-- The first point of a run: the output block is the input block plus the first tile. -/
theorem outA (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : cond0_0 i) (hc1 : ¬cond0_1 i)
    (x0 : FVec Ideal S1024x2048 .f32) (x1 : FVec Ideal S1x2048 .f32) (x2 : FVec Ideal S2048x512 .bf16) (x3 : FVec Ideal S2048x512 .bf16) (x4 : FVec Ideal S512x2048 .bf16) (x5 : FVec Ideal S1x2048 .f32)
    (r : Fin 1024) (j : Fin 2048) :
    out0_A_6 (F := Ideal) c i arg2 harg2 arg3 harg3 arg4 harg4 arg5 harg5 arg6 harg6 arg7 harg7 arg8 harg8 arg9 harg9 hc0 hc1 x0 x1 x2 x3 x4 x5 (ix2 r j)
      = x0 (ix2 r j) + tile (k0_pay5 x0 x1) x2 x3 x4 r j := by
  frame_open
  simp (disch := decide) only [↓ View.readCov_skip, ↓ View.readCov_cons_toLoadRect, ↓ View.readCov_fill]
  frame_out
  rw [pay4_eq]
  refine View.canon_append_of_piecesOf (Val := Elt Ideal) (s := S1024x2048) (e := .f32) (addTile x0 (k0_pay5 x0 x1) x2 x3 x4)
    [_] [_, _, _, _] ⟨?_, ?_, ?_, ?_, trivial⟩ _ (View.cover_of_tiledL (s := S1024x2048) _ S1024x512.size (by sl_kernel_rfl) _)
  · intro q
    idx_vars q
    refine Eq.trans ?_ (congrArg (addTile x0 (k0_pay5 x0 x1) x2 x3 x4) (emb_at 1536 _ q0 q1 (by omega)).symm)
    rw [pay2_at]
    pointwise [pay6_at, tile, addTile]
  · intro q
    idx_vars q
    refine Eq.trans ?_ (congrArg (addTile x0 (k0_pay5 x0 x1) x2 x3 x4) (emb_at 1024 _ q0 q1 (by omega)).symm)
    rw [pay1_at]
    pointwise [pay6_at, tile, addTile]
  · intro q
    idx_vars q
    refine Eq.trans ?_ (congrArg (addTile x0 (k0_pay5 x0 x1) x2 x3 x4) (emb_at 512 _ q0 q1 (by omega)).symm)
    rw [pay8_at]
    pointwise [tile, addTile]
  · intro q
    idx_vars q
    refine Eq.trans ?_ (congrArg (addTile x0 (k0_pay5 x0 x1) x2 x3 x4) (emb_at 0 _ q0 q1 (by omega)).symm)
    rw [pay7_at]
    pointwise [tile, addTile]

theorem soutA (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : cond0_0 i) (hc1 : ¬cond0_1 i)
    (x0 : FVec Ideal S1024x2048 .f32) (x1 : FVec Ideal S1x2048 .f32) (x2 : FVec Ideal S2048x512 .bf16) (x3 : FVec Ideal S2048x512 .bf16) (x4 : FVec Ideal S512x2048 .bf16) (x5 : FVec Ideal S1x2048 .f32) :
    sout0_A_0 (F := Ideal) c i arg2 harg2 arg3 harg3 arg4 harg4 arg5 harg5 arg6 harg6 arg7 harg7 arg8 harg8 arg9 harg9 hc0 hc1 x0 x1 x2 x3 x4 x5 = (k0_pay5 x0 x1 : FVec Ideal S1024x2048 .bf16) := by
  frame_out

theorem outC (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
    (hc0 : ¬cond0_0 i) (hc1 : cond0_1 i)
    (x0 : FVec Ideal S1024x2048 .f32) (x1 : FVec Ideal S1x2048 .f32) (x2 : FVec Ideal S2048x512 .bf16) (x3 : FVec Ideal S2048x512 .bf16) (x4 : FVec Ideal S512x2048 .bf16) (x5 : FVec Ideal S1x2048 .f32) (xo6 : FVec Ideal S1024x2048 .f32) (xs0 : FVec Ideal S1024x2048 .bf16)
    (r : Fin 1024) (j : Fin 2048) :
    out0_C_6 (F := Ideal) c i arg2 harg2 arg3 harg3 arg4 harg4 arg5 harg5 arg6 harg6 arg7 harg7 arg8 harg8 arg9 harg9 hc0 hc1 x0 x1 x2 x3 x4 x5 xo6 xs0 (ix2 r j)
      = rms (fun j => xo6 (ix2 r j) + tile xs0 x2 x3 x4 r j) (fun j => x5 (ix2 0 j)) j := by
  frame_out
  rw [pay3_at]
  congr 1
  funext j
  rw [View.readCov_eq_canon_ld, View.ld_unit_lit]
  rotate_left
  · intro a; fin_cases a <;> rfl
  · exact View.cover_of_tiledL _ S1024x512.size (by sl_kernel_rfl)
  canon_tiles x h
  all_goals (
    idx_vars x
    change (r : ℕ) = _ at h0; change (j : ℕ) = _ at h1
    obtain rfl := Fin.ext h0
    first | rw [pay2_at] | rw [pay1_at] | rw [pay8_at] | rw [pay7_at]
    obtain ⟨j, hj⟩ := j
    dsimp only at h1
    subst h1
    pointwise [pay6_at, tile])

end Outs

end Cert.FfnIdeal.Pay

end
-- ==== Proof.FfnBlocks.lean ====
module

public import proofs.«01_k».proof.Proof.FfnPay

@[expose] public section

set_option maxRecDepth 16384

noncomputable section

/-! The blocks the FFN call's points read, as entries of the argument arrays. -/

namespace Cert.FfnIdeal.Pay

open Cert.FfnIdeal Cert.FfnIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

/-- Token `R`'s entry `k` of an activation of four sequences. -/
def hrow (h : FVec Ideal S4x4096x2048 .f32) (R : Fin 16384) (k : Fin 2048) : EReal :=
  h (ix3 ⟨R / 4096, by omega⟩ ⟨R % 4096, by omega⟩ k)

/-- Where each window's block lies at point `t`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] ∧ win0_6.index t = ![t.val / 11, 0]
    ∧ t.val / 11 < 16 :=
  (by decide +kernel : ∀ t : Fin grid0.N, _)

/-- The token that row `r` of the block of point `n` is. -/
def tok (n : ℕ) (hn : n / 11 < 16) (r : Fin 1024) : Fin 16384 := ⟨1024 * (n / 11) + r, by omega⟩

/-- The hidden channel that column `f` of the tile of point `n` is. -/
def chan (n : ℕ) (f : Fin 512) : Fin 5632 := ⟨512 * (n % 11) + f, by omega⟩

theorem blk0 (t : Fin cfg0.N) (hn : t.val / 11 < 16) (r : Fin 1024) (k : Fin 2048) :
    (iblk m c 0 t : FVec Ideal S1024x2048 .f32) (ix2 r k) = hrow (m ((c : Thread nD τ).loc main_arg0)) (tok t.val hn r) k := by
  blk_simp [iblk, idx t]
  entry_read
  pointwise [hrow, tok]
  blk_ext [idx t]

theorem blk1 (t : Fin cfg0.N) (k : Fin 2048) :
    (iblk m c 1 t : FVec Ideal S1x2048 .f32) (ix2 0 k) = m ((c : Thread nD τ).loc main_arg1) (ix2 0 k) := by
  blk_simp [iblk, idx t]
  entry_read
  pointwise
  blk_ext [idx t]

theorem blk2 (t : Fin cfg0.N) (k : Fin 2048) (f : Fin 512) :
    (iblk m c 2 t : FVec Ideal S2048x512 .bf16) (ix2 k f) = m ((c : Thread nD τ).loc main_arg2) (ix3 0 k (chan t.val f)) := by
  blk_simp [iblk, idx t]
  entry_read
  pointwise [chan]
  blk_ext [idx t]

theorem blk3 (t : Fin cfg0.N) (k : Fin 2048) (f : Fin 512) :
    (iblk m c 3 t : FVec Ideal S2048x512 .bf16) (ix2 k f) = m ((c : Thread nD τ).loc main_arg3) (ix3 0 k (chan t.val f)) := by
  blk_simp [iblk, idx t]
  entry_read
  pointwise [chan]
  blk_ext [idx t]

theorem blk4 (t : Fin cfg0.N) (f : Fin 512) (j : Fin 2048) :
    (iblk m c 4 t : FVec Ideal S512x2048 .bf16) (ix2 f j) = m ((c : Thread nD τ).loc main_arg4) (ix3 0 (chan t.val f) j) := by
  blk_simp [iblk, idx t]
  entry_read
  pointwise [chan]
  blk_ext [idx t]

theorem blk5 (t : Fin cfg0.N) (k : Fin 2048) :
    (iblk m c 5 t : FVec Ideal S1x2048 .f32) (ix2 0 k) = m ((c : Thread nD τ).loc main_arg5) (ix1 k) := by
  blk_simp [iblk, idx t]
  entry_read
  pointwise
  blk_ext [idx t]

end Cert.FfnIdeal.Pay
-- ==== Proof.FfnRun.lean ====
module

public import proofs.«01_k».proof.Proof.FfnBlocks

@[expose] public section

set_option maxRecDepth 16384

noncomputable section

/-! What the FFN call's output array holds after the run: per token, the residual plus the whole sum over the hidden axis,
    normalised. The sum is taken over the eleven points of a run, 512 hidden channels at each. -/

namespace Cert.FfnIdeal.Pay

open Cert.FfnIdeal Cert.FfnIdeal.Gen Idealize.ShloMosaic Idealize.ShloMosaic.TcCoe Idealize.SL.Sem
open Idealize.ShloMosaic.Pipeline (Dat)

local notation "Ideal" => Idealize.ShloMosaic.Ideal

section Maths

variable (h : FVec Ideal S4x4096x2048 .f32) (g : FVec Ideal S1x2048 .f32) (wg wu : FVec Ideal S1x2048x5632 .f32)
  (wd : FVec Ideal S1x5632x2048 .f32) (gf : FVec Ideal S2048 .f32)

/-- The normalised activations of token `R`. -/
def nrow (R : Fin 16384) (k : Fin 2048) : EReal := rms (hrow h R) (fun j => g (ix2 0 j)) k

/-- One product of the normalised activations with a weight: channel `l` of the hidden axis. -/
def mid (w : FVec Ideal S1x2048x5632 .f32) (R : Fin 16384) (l : Fin 5632) : EReal := ∑ k : Fin 2048, nrow h g R k * w (ix3 0 k l)

/-- The hidden channel `l`: the activated gate times the up projection. -/
def hid (R : Fin 16384) (l : Fin 5632) : EReal := hsilu (mid h g wg R l) * mid h g wu R l

/-- One summand of the down projection, by its number (nothing past the last channel). -/
def term (R : Fin 16384) (j : Fin 2048) (n : ℕ) : EReal := if hn : n < 5632 then hid h g wg wu R ⟨n, hn⟩ * wd (ix3 0 ⟨n, hn⟩ j) else 0

/-- The first `n` summands. -/
def part (R : Fin 16384) (j : Fin 2048) (n : ℕ) : EReal := ∑ x ∈ Finset.range n, term h g wg wu wd R j x

/-- The layer's second residual stream. -/
def res (R : Fin 16384) (j : Fin 2048) : EReal := hrow h R j + ∑ l : Fin 5632, hid h g wg wu R l * wd (ix3 0 l j)

/-- The call's whole result. -/
def ffn : FVec Ideal S16384x2048 .f32 := fun y => rms (res h g wg wu wd (y 0)) (fun j => gf (ix1 j)) (y 1)

theorem part_all (R : Fin 16384) (j : Fin 2048) : hrow h R j + part h g wg wu wd R j 5632 = res h g wg wu wd R j := by
  unfold part res
  rw [Finset.sum_range]
  refine congrArg _ (Finset.sum_congr rfl fun l _ => ?_)
  exact dif_pos l.isLt

theorem part_step (R : Fin 16384) (j : Fin 2048) (n : ℕ) :
    part h g wg wu wd R j (512 * (n + 1)) = part h g wg wu wd R j (512 * n) + ∑ f : Fin 512, term h g wg wu wd R j (512 * n + f) := by
  unfold part
  rw [Nat.mul_succ, Finset.sum_range_add, Finset.sum_range (n := 512)]

end Maths

variable (m : (ℓ : Loc nD τ sig) → Buf (Elt Ideal) ℓ) (c : Dev nD)

/-- The tile of a point, over a scratch that holds the normalised rows. -/
theorem tile_at (t : Fin cfg0.N) (hn : t.val / 11 < 16) (xs : FVec Ideal S1024x2048 .bf16)
    (hxs : ∀ r k, xs (ix2 r k) = nrow (m ((c : Thread nD τ).loc main_arg0)) (m ((c : Thread nD τ).loc main_arg1)) (tok t.val hn r) k) (r : Fin 1024) (j : Fin 2048) :
    tile xs (iblk m c 2 t) (iblk m c 3 t) (iblk m c 4 t) r j
      = ∑ f : Fin 512, term (m ((c : Thread nD τ).loc main_arg0)) (m ((c : Thread nD τ).loc main_arg1)) (m ((c : Thread nD τ).loc main_arg2)) (m ((c : Thread nD τ).loc main_arg3)) (m ((c : Thread nD τ).loc main_arg4)) (tok t.val hn r) j (512 * (t.val % 11) + f) := by
  unfold tile act
  refine Finset.sum_congr rfl fun f _ => ?_
  refine Eq.trans ?_ (dif_pos (chan t.val f).isLt).symm
  rw [blk4 m c t]
  refine congrArg (· * _) ?_
  unfold hid mid
  simp only [hxs, blk2 m c t, blk3 m c t]
  rfl

theorem pay5_blk (t : Fin cfg0.N) (hn : t.val / 11 < 16) (r : Fin 1024) (k : Fin 2048) :
    (k0_pay5 (iblk m c 0 t) (iblk m c 1 t) : FVec Ideal S1024x2048 .bf16) (ix2 r k) = nrow (m ((c : Thread nD τ).loc main_arg0)) (m ((c : Thread nD τ).loc main_arg1)) (tok t.val hn r) k := by
  rw [pay5_at]
  unfold nrow
  simp only [blk0 m c t hn, blk1 m c t]

theorem tok_pred (n : ℕ) (h : n / 11 < 16) (h' : (n - 1) / 11 < 16) (h0 : ¬ n % 11 = 0) (r : Fin 1024) : tok (n - 1) h' r = tok n h r := by
  unfold tok
  have : (n - 1) / 11 = n / 11 := by omega
  simp only [this]

/-- What the buffers hold after point `t`: the scratch the normalised rows of the run's tokens; the output block, before the
    run's last point, the residual and the summands so far. -/
theorem outs : ∀ (n : ℕ) (t : Fin cfg0.N), t.val = n → ∀ hn : t.val / 11 < 16,
    (∀ r k, (outsAt0 m c t.val t.isLt).2 (ix2 r k) = nrow (m ((c : Thread nD τ).loc main_arg0)) (m ((c : Thread nD τ).loc main_arg1)) (tok t.val hn r) k)
    ∧ (t.val % 11 ≠ 10 → ∀ r j, (outsAt0 m c t.val t.isLt).1 (ix2 r j)
        = hrow (m ((c : Thread nD τ).loc main_arg0)) (tok t.val hn r) j + part (m ((c : Thread nD τ).loc main_arg0)) (m ((c : Thread nD τ).loc main_arg1)) (m ((c : Thread nD τ).loc main_arg2)) (m ((c : Thread nD τ).loc main_arg3)) (m ((c : Thread nD τ).loc main_arg4)) (tok t.val hn r) j (512 * (t.val % 11 + 1))) := by
  intro n
  induction n using Nat.strong_induction_on with
  | _ n ih =>
    intro t ht hn
    by_cases h0 : t.val % 11 = 0
    · have h1 : ¬ t.val % 11 = 10 := by omega
      rw [outsAt0_A m c t h0 h1]
      dsimp only
      refine ⟨fun r k => ?_, fun _ r j => ?_⟩
      · rw [soutA]
        exact pay5_blk m c t hn r k
      · rw [outA, blk0 m c t hn, tile_at m c t hn _ (pay5_blk m c t hn), part_step, h0]
        unfold part
        simp
    · have hp : t.val - 1 < cfg0.N := by omega
      have hq : (t.val - 1) / 11 < 16 := by omega
      have e1 : (t.val - 1) % 11 + 1 = t.val % 11 := by omega
      obtain ⟨hs, ho⟩ := ih (t.val - 1) (by omega) ⟨t.val - 1, hp⟩ rfl hq
      dsimp only at hs ho
      have ho := ho (by omega)
      simp only [tok_pred t.val hn hq h0, e1] at hs ho
      by_cases h1 : t.val % 11 = 10
      · rw [outsAt0_C m c t h0 h1]
        exact ⟨hs, fun h => absurd h1 h⟩
      · rw [outsAt0_B m c t h0 h1]
        refine ⟨hs, fun _ r j => ?_⟩
        dsimp only
        rw [outB, ho, tile_at m c t hn _ hs, part_step, add_assoc]

/-- The output block at a run's last point. -/
theorem last (t : Fin cfg0.N) (hn : t.val / 11 < 16) (h1 : t.val % 11 = 10) (r : Fin 1024) (j : Fin 2048) :
    (outsAt0 m c t.val t.isLt).1 (ix2 r j) = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (tok t.val hn r) j) := by
  have h0 : ¬ t.val % 11 = 0 := by omega
  have hp : t.val - 1 < cfg0.N := by omega
  have hq : (t.val - 1) / 11 < 16 := by omega
  have e1 : (t.val - 1) % 11 + 1 = t.val % 11 := by omega
  obtain ⟨hs, ho⟩ := outs m c (t.val - 1) ⟨t.val - 1, hp⟩ rfl hq
  dsimp only at hs ho
  have ho := ho (by omega)
  simp only [tok_pred t.val hn hq h0, e1] at hs ho
  rw [outsAt0_C m c t h0 h1]
  dsimp only
  rw [outC]
  unfold ffn
  refine congrArg₂ (fun a b => rms a b j) (funext fun k => ?_) (funext fun k => blk5 m c t k)
  rw [ho, tile_at m c t hn _ hs, add_assoc, ← part_step, h1]
  exact part_all ..

/-- The output array after the run. -/
theorem final : (dats m 0 c).arrAt 6 cfg0.N = ffn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have hn := (idx t).2.2.2.2.2.2.2
  blk_simp
  rw [after0_6]
  have e := last m c t hn ((flush0_6 t).mp hf) (y 0) (y 1)
  rw [← eq_ix2 y] at e
  refine e.trans (congrArg _ ?_)
  blk_ext [tok, idx t]

end Cert.FfnIdeal.Pay
-- ==== Proof.FfnRef.lean ====
module

public import proofs.«01_k».proof.Proof.FfnRun
public import proofs.«01_k».proof.Proof.Gen.FfnRefIdeal.Read

@[expose] public section

set_option maxRecDepth 16384

noncomputable section

/-! The FFN reference, stage by stage, at the extended reals. -/

namespace Cert.FfnIdeal.Pay

open Cert.FfnRefIdeal.Read Idealize.ShloMosaic Idealize.ShloMosaic.TcCoe Idealize.SL.Sem

local notation "Ideal" => Idealize.ShloMosaic.Ideal

variable (h : FVec Ideal Cert.FfnIdeal.S4x4096x2048 .f32) (g : FVec Ideal Cert.FfnIdeal.S1x2048 .f32) (wg wu : FVec Ideal Cert.FfnIdeal.S1x2048x5632 .f32)
  (wd : FVec Ideal Cert.FfnIdeal.S1x5632x2048 .f32) (gf : FVec Ideal Cert.FfnIdeal.S2048 .f32)

/-- Token `s` of sequence `b`, numbered through. -/
def tk (b : Fin 4) (s : Fin 4096) : Fin 16384 := ⟨4096 * b + s, by omega⟩

theorem hrow_tk (b : Fin 4) (s : Fin 4096) (k : Fin 2048) : hrow h (tk b s) k = h (ix3 b s k) := by
  unfold hrow tk
  congr 1
  refine congrArg₂ (fun x y => ix3 x y k) (Fin.ext ?_) (Fin.ext ?_) <;> dsimp only <;> omega

/-- The gate's activation as the reference computes it. -/
def lsilu (z : EReal) : EReal := z * Ideal.div (Ideal.ofBits .f32 0x3F800000#32) (Ideal.ofBits .f32 0x3F800000#32 + Ideal.exp (-z))

theorem r13 (b : Fin 4) (s : Fin 4096) (k : Fin 2048) : val_main_v13 (F := Ideal) h g (ix3 b s k) = nrow h g (tk b s) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [nrow, rms, hrow_tk, zero_add]

theorem r15 (b : Fin 4) (s : Fin 4096) (l : Fin 5632) : val_main_v15 (F := Ideal) h g wg (ix3 b s l) = mid h g wg (tk b s) l := by
  rw [val_main_v15_apply]
  refine Finset.sum_congr rfl fun k _ => ?_
  rw [show lidx_main_v15 (ix3 b s l) k = ix3 b s k from by funext a; fin_cases a <;> rfl,
    show ridx_main_v15 (ix3 b s l) k = ix2 k l from by funext a; fin_cases a <;> rfl, r13]
  pointwise [val_main_v14]

theorem r17 (b : Fin 4) (s : Fin 4096) (l : Fin 5632) : val_main_v17 (F := Ideal) h g wu (ix3 b s l) = mid h g wu (tk b s) l := r15 h g wu b s l

theorem r19 (b : Fin 4) (s : Fin 4096) (l : Fin 5632) :
    val_main_v19 (F := Ideal) h g wg wu (ix3 b s l) = lsilu (mid h g wg (tk b s) l) * mid h g wu (tk b s) l := by
  pointwise [val_main_v19, val_main_v18, val_main_call0_v5, val_main_call0_v4, val_main_call0_v3, val_main_call0_v2, val_main_call0_v1, val_main_call0_v0,
    val_main_call0_cst, val_main_call0_cst_0, r15, r17, lsilu]

theorem r22 (hs : ∀ b s l, lsilu (mid h g wg (tk b s) l) = hsilu (mid h g wg (tk b s) l)) (b : Fin 4) (s : Fin 4096) (j : Fin 2048) :
    val_main_v22 (F := Ideal) h g wg wu wd (ix3 b s j) = res h g wg wu wd (tk b s) j := by
  rw [val_main_v22_apply, val_main_v21_apply]
  unfold res
  rw [hrow_tk]
  refine congrArg (h (ix3 b s j) + ·) (Finset.sum_congr rfl fun l _ => ?_)
  rw [show lidx_main_v21 (ix3 b s j) l = ix3 b s l from by funext a; fin_cases a <;> rfl,
    show ridx_main_v21 (ix3 b s j) l = ix2 l j from by funext a; fin_cases a <;> rfl, r19, hs]
  pointwise [val_main_v20, hid]

theorem r35 (hs : ∀ b s l, lsilu (mid h g wg (tk b s) l) = hsilu (mid h g wg (tk b s) l)) (b : Fin 4) (s : Fin 4096) (j : Fin 2048) :
    val_main_v35 (F := Ideal) h g wg wu wd gf (ix3 b s j) = rms (res h g wg wu wd (tk b s)) (fun k => gf (ix1 k)) j := by
  pointwise [val_main_v35, val_main_v34, val_main_v33, val_main_v32, val_main_v31, val_main_v30, val_main_v29, val_main_v28, val_main_v27, val_main_v26, val_main_v25,
    val_main_v24, val_main_v23, val_main_cst_2, val_main_cst_3, val_main_cst_4, r22 h g wg wu wd hs]
  simp only [rms, zero_add]

theorem r36 (hs : ∀ b s l, lsilu (mid h g wg (tk b s) l) = hsilu (mid h g wg (tk b s) l)) :
    val_main_v36 (F := Ideal) h g wg wu wd gf = ffn h g wg wu wd gf := by
  funext y
  idx_vars y
  pointwise [val_main_v36]
  rw [r35 h g wg wu wd gf hs]
  unfold ffn
  refine congrArg (fun R => rms (res h g wg wu wd R) (fun k => gf (ix1 k)) y1) (Fin.ext ?_)
  unfold tk
  dsimp only
  show _ = (y0 : ℕ)
  omega

end Cert.FfnIdeal.Pay
-- ==== Proof.FfnValue.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_finite_ffn
public import proofs.«01_k».proof.Proof.FfnRef
public import proofs.«01_k».proof.Proof.Real

@[expose] public section

set_option maxRecDepth 16384

noncomputable section

/-! The claims about the FFN call. -/

namespace Cert.FfnIdeal.Pay

open Idealize.ShloMosaic Idealize.ShloMosaic.TcCoe Idealize.SL.Sem Cert.Fin

local notation "Ideal" => Idealize.ShloMosaic.Ideal

/-- The precondition: the residual stream, the gain and the gate's weight are finite. -/
theorem of_pre (a0 : FVec Ideal Cert.FfnIdeal.S4x4096x2048 .f32) (a1 : FVec Ideal Cert.FfnIdeal.S1x2048 .f32) (a2 a3 : FVec Ideal Cert.FfnIdeal.S1x2048x5632 .f32)
    (a4 : FVec Ideal Cert.FfnIdeal.S1x5632x2048 .f32) (a5 : FVec Ideal Cert.FfnIdeal.S2048 .f32)
    (hp : Cert.Pre_finite_ffn.fn (F := Ideal) a0 a1 a2 a3 a4 a5 = fun _ => 1#1) :
    (∀ i, IsReal (a0 i)) ∧ (∀ i, IsReal (a1 i)) ∧ ∀ i, IsReal (a2 i) := by
  have e := congrFun hp (Shape.Idx.first (by decide))
  dsimp only [Cert.Pre_finite_ffn.fn, andi] at e
  obtain ⟨e01, e2⟩ := IntOp.andi_eq_one.1 e
  obtain ⟨e0, e1⟩ := IntOp.andi_eq_one.1 e01
  haveI : Subsingleton Cert.Pre_finite_ffn.S_.Idx := ⟨fun a b => funext fun k => k.elim0⟩
  exact ⟨fun i => of_test _ (Host.reduce_andi_all _ _ _ _ _ e0 i), fun i => of_test _ (Host.reduce_andi_all _ _ _ _ _ e1 i),
    fun i => of_test _ (Host.reduce_andi_all _ _ _ _ _ e2 i)⟩

/-- Finite operands give a finite gate, where the two activations agree. -/
theorem silu_eq (h : FVec Ideal Cert.FfnIdeal.S4x4096x2048 .f32) (g : FVec Ideal Cert.FfnIdeal.S1x2048 .f32) (w : FVec Ideal Cert.FfnIdeal.S1x2048x5632 .f32)
    (h0 : ∀ i, IsReal (h i)) (h1 : ∀ i, IsReal (g i)) (h2 : ∀ i, IsReal (w i)) (b : Fin 4) (s : Fin 4096) (l : Fin 5632) :
    lsilu (mid h g w (tk b s) l) = hsilu (mid h g w (tk b s) l) := by
  have hz : IsReal (mid h g w (tk b s) l) := IsReal.sum _ _ fun k =>
    (((h0 _).mul (rsqrt_mean _ fun j => h0 _)).mul (h1 _)).mul (h2 _)
  unfold lsilu hsilu
  rw [silu hz, Ideal.logistic, Ideal.ofBits_one_f32]

theorem frame_p : Cert.quiescent_Ffn := fun m ρ _ => Cert.Ffn.Gen.frame m ρ
theorem frame_i : Cert.quiescent_FfnIdeal := fun m ρ _ => Cert.FfnIdeal.Gen.frame m ρ
theorem frame_ip : Cert.quiescent_FfnIdeal_pre_finite_ffn := fun m ρ _ => Cert.FfnIdeal.Gen.frame m ρ
theorem frame_r : Cert.quiescent_FfnRefIdeal := fun m ρ _ =>
  (θ_run Cert.FfnRefIdeal.defs _ _).mono (fun r h => ⟨fun c => (by obtain rfl : c = 0 := Subsingleton.elim _ _; exact (h 0).2),
      sem_eq_zero_of_no_sems (by decide) r.2⟩)
    (Cert.FfnRefIdeal.Value.run (F := Ideal) m ρ)
theorem frame_rp : Cert.quiescent_FfnRefIdeal_pre_finite_ffn := fun m ρ _ => frame_r m ρ trivial

/-- At the extended reals the kernel's result is the reference's. -/
theorem algebraic : Cert.algebraic_FfnIdeal_FfnRefIdeal_pre_finite_ffn := by
  intro m ρ m' ρ' hpre hagree
  refine ⟨fun c => (Cert.FfnIdeal.Gen.dats m 0 c).arrAt 6 Cert.FfnIdeal.cfg0.N, Cert.FfnIdeal.Value.run_blocks (F := Ideal) m ρ, ?_⟩
  refine (θ_run Cert.FfnRefIdeal.defs _ _).mono (fun _ h c => ?_) (Cert.FfnRefIdeal.Value.run (F := Ideal) m' ρ')
  obtain rfl : c = 0 := Subsingleton.elim _ _
  refine ⟨(h 0).1.trans ?_, (h 0).2⟩
  obtain ⟨h0, h1, h2⟩ := of_pre _ _ _ _ _ _ (hpre 0)
  refine Eq.trans ?_ (final m 0).symm
  rw [Cert.FfnRefIdeal.Read.val_main_v36_eq]
  obtain ⟨g0, g1, g2, g3, g4, g5⟩ := hagree 0
  rw [g0, g1, g2, g3, g4, g5]
  exact r36 _ _ _ _ _ _ (silu_eq _ _ _ h0 h1 h2)

end Cert.FfnIdeal.Pay
-- ==== Proof.MixerRun.lean ====
/- The mixer's body, run once at symbolic operands: whatever the twelve inputs hold is kept, the five outputs and the
   four scratch buffers end at some contents. -/
module

public import proofs.«01_k».proof.Proof.Gen.MixerIdeal.Frame
public import proofs.«01_k».proof.Proof.Gen.MixerIdeal.Skeleton
public import Idealize.ShloMosaic.Lib.Pipeline.ValueKit
public import Idealize.ShloMosaic.Lib.VecWindow

@[expose] public section

set_option maxRecDepth 65536

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- The body's triple: from the inputs' memrefs at their contents and every other memref at any contents, the body
    returns the inputs' as they were, the four copies' at the payloads of the weights' blocks and the others at some
    contents. -/
theorem mixerRun (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x128 .f32) (harg4 : arg4.IsWhole) (arg5 : Memref sig .tc .vmem S4x4096 .f32) (harg5 : arg5.IsWhole) (arg6 : Memref sig .tc .vmem S1x4096 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S64x2048 .f32) (harg10 : arg10.IsWhole) (arg11 : Memref sig .tc .vmem S32x5632 .f32) (harg11 : arg11.IsWhole) (arg12 : Memref sig .tc .vmem S32x5632 .f32) (harg12 : arg12.IsWhole) (arg13 : Memref sig .tc .vmem S128x2048 .f32) (harg13 : arg13.IsWhole) (arg14 : Memref sig .tc .vmem S256x2048 .bf16) (harg14 : arg14.IsWhole) (arg15 : Memref sig .tc .vmem S64x2048 .bf16) (harg15 : arg15.IsWhole) (arg16 : Memref sig .tc .vmem S32x5632 .bf16) (harg16 : arg16.IsWhole) (arg17 : Memref sig .tc .vmem S32x5632 .bf16) (harg17 : arg17.IsWhole) (arg18 : Memref sig .tc .vmem S128x2048 .bf16) (harg18 : arg18.IsWhole) (arg19 : Memref sig .tc .vmem S2x32x136x128 .f32) (harg19 : arg19.IsWhole) (arg20 : Memref sig .tc .vmem S2x32x128x128 .f32) (harg20 : arg20.IsWhole) (arg21 : Memref sig .tc .vmem S8x128x256 .f32) (harg21 : arg21.IsWhole) (arg22 : Memref sig .tc .vmem S256x4096 .bf16) (harg22 : arg22.IsWhole)
    (x0 : Vec F S256x2048 .bf16) (x1 : Vec F S256x2048 .bf16) (x2 : Vec F S256x128 .f32) (x3 : Vec F S4x4096 .f32) (x4 : Vec F S1x4096 .f32) (x5 : Vec F S1x128 .f32) (x6 : Vec F S1x128 .f32) (x7 : Vec F S1x2048 .f32) (x8 : Vec F S64x2048 .f32) (x9 : Vec F S32x5632 .f32) (x10 : Vec F S32x5632 .f32) (x11 : Vec F S128x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare (k0_pay15 x8) ∗ owns (c : Thread nD τ) arg16 fullShare (k0_pay16 x9) ∗ owns (c : Thread nD τ) arg17 fullShare (k0_pay17 x10) ∗ owns (c : Thread nD τ) arg18 fullShare (k0_pay18 x11) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mixer_eq_skeleton]; unfold cc0_mixer_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _; isplitr; swap; · iexact H13
      ipureintro
      first
        | exact (View.read_writes_full _ _ _ _ _).trans (congrArg k0_pay15 (View.ld_unit_lit _ _ (by decide)))
        | exact (View.read_writes_full _ _ _ _ _).trans (congrArg k0_pay15 ((View.readAt_full _ _ _).trans (harg10.read_unread _)))
        | (refine (View.read_writes_full _ _ _ _ _).trans ?_; simp only [View.readAt_full, harg10.read_unread]; done)
        | (refine (View.read_writes_full _ _ _ _ _).trans ?_; rfl)
    isplitl [H14]
    · iexists _; isplitr; swap; · iexact H14
      ipureintro
      first
        | exact (View.read_writes_full _ _ _ _ _).trans (congrArg k0_pay16 (View.ld_unit_lit _ _ (by decide)))
        | exact (View.read_writes_full _ _ _ _ _).trans (congrArg k0_pay16 ((View.readAt_full _ _ _).trans (harg11.read_unread _)))
        | (refine (View.read_writes_full _ _ _ _ _).trans ?_; simp only [View.readAt_full, harg11.read_unread]; done)
        | (refine (View.read_writes_full _ _ _ _ _).trans ?_; rfl)
    isplitl [H15]
    · iexists _; isplitr; swap; · iexact H15
      ipureintro
      first
        | exact (View.read_writes_full _ _ _ _ _).trans (congrArg k0_pay17 (View.ld_unit_lit _ _ (by decide)))
        | exact (View.read_writes_full _ _ _ _ _).trans (congrArg k0_pay17 ((View.readAt_full _ _ _).trans (harg12.read_unread _)))
        | (refine (View.read_writes_full _ _ _ _ _).trans ?_; simp only [View.readAt_full, harg12.read_unread]; done)
        | (refine (View.read_writes_full _ _ _ _ _).trans ?_; rfl)
    isplitl [H16]
    · iexists _; isplitr; swap; · iexact H16
      ipureintro
      first
        | exact (View.read_writes_full _ _ _ _ _).trans (congrArg k0_pay18 (View.ld_unit_lit _ _ (by decide)))
        | exact (View.read_writes_full _ _ _ _ _).trans (congrArg k0_pay18 ((View.readAt_full _ _ _).trans (harg13.read_unread _)))
        | (refine (View.read_writes_full _ _ _ _ _).trans ?_; simp only [View.readAt_full, harg13.read_unread]; done)
        | (refine (View.read_writes_full _ _ _ _ _).trans ?_; rfl)
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.MixerIdeal.Gen

end
-- ==== Proof.MixerFrame.lean ====
/- The run of the SSD recurrence's call. Of the four weights' buffers and of their copies' it is said what they hold; every
   other staging buffer and every scratch buffer is handed to the body at some contents and taken back at some contents.
   That is enough for the launch to end, for no access to be out of place, for the argument arrays to be left as they were
   and for the copies' arrays to be known. -/
module

public import proofs.«01_k».proof.Proof.MixerRun
public import Idealize.ShloMosaic.Lib.Claim
public import Idealize.ShloMosaic.Lib.Pipeline.ValueKit

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0_0 (t : Fin cfg0.N) : Memref sig .tc .vmem S256x2048 .bf16 := win0_0.stage (cfg0.slots t 0)
abbrev ms0_1 (t : Fin cfg0.N) : Memref sig .tc .vmem S256x2048 .bf16 := win0_1.stage (cfg0.slots t 1)
abbrev ms0_2 (t : Fin cfg0.N) : Memref sig .tc .vmem S256x128 .f32 := win0_2.stage (cfg0.slots t 2)
abbrev ms0_3 (t : Fin cfg0.N) : Memref sig .tc .vmem S4x4096 .f32 := win0_3.stage (cfg0.slots t 3)
abbrev ms0_4 (t : Fin cfg0.N) : Memref sig .tc .vmem S1x4096 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S1x128 .f32 := win0_6.stage (cfg0.slots t 6)
abbrev ms0_7 (t : Fin cfg0.N) : Memref sig .tc .vmem S1x2048 .f32 := win0_7.stage (cfg0.slots t 7)
abbrev ms0_8 (t : Fin cfg0.N) : Memref sig .tc .vmem S64x2048 .f32 := win0_8.stage (cfg0.slots t 8)
abbrev ms0_9 (t : Fin cfg0.N) : Memref sig .tc .vmem S32x5632 .f32 := win0_9.stage (cfg0.slots t 9)
abbrev ms0_10 (t : Fin cfg0.N) : Memref sig .tc .vmem S32x5632 .f32 := win0_10.stage (cfg0.slots t 10)
abbrev ms0_11 (t : Fin cfg0.N) : Memref sig .tc .vmem S128x2048 .f32 := win0_11.stage (cfg0.slots t 11)
abbrev ms0_12 (t : Fin cfg0.N) : Memref sig .tc .vmem S256x2048 .bf16 := win0_12.stage (cfg0.slots t 12)
abbrev ms0_13 (t : Fin cfg0.N) : Memref sig .tc .vmem S64x2048 .bf16 := win0_13.stage (cfg0.slots t 13)
abbrev ms0_14 (t : Fin cfg0.N) : Memref sig .tc .vmem S32x5632 .bf16 := win0_14.stage (cfg0.slots t 14)
abbrev ms0_15 (t : Fin cfg0.N) : Memref sig .tc .vmem S32x5632 .bf16 := win0_15.stage (cfg0.slots t 15)
abbrev ms0_16 (t : Fin cfg0.N) : Memref sig .tc .vmem S128x2048 .bf16 := win0_16.stage (cfg0.slots t 16)
abbrev scM0_0 : Memref sig .tc .vmem S2x32x136x128 .f32 := Memref.whole cc0_scratch0
abbrev scM0_1 : Memref sig .tc .vmem S2x32x128x128 .f32 := Memref.whole cc0_scratch1
abbrev scM0_2 : Memref sig .tc .vmem S8x128x256 .f32 := Memref.whole cc0_scratch2
abbrev scM0_3 : Memref sig .tc .vmem S256x4096 .bf16 := Memref.whole cc0_scratch3

/-- The launch's invariant: the four scratch buffers at some contents and the generator register at some state. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- The windows of which nothing is said: all but the four weights and their four copies. -/
def forgets0 : Fin cfg0.W → Bool := fun w => decide (w.val < 8) || decide (w.val = 12)

/-- The arrays as the region finds them; a weight's buffer at its block and a copy's at
    its payload; the invariant the launch's. -/
def dats (_ : Fin 1) (c : Dev nD) : Dat τ (Elt F) Unit ℕ (UR sig nD τ) ℕ cfg0 c where
  A w := V m c (Pipeline.arrRef spec0 w)
  after w t := match w with
    | ⟨0, _⟩ => Dat.unnamed 0 t
    | ⟨1, _⟩ => Dat.unnamed 1 t
    | ⟨2, _⟩ => Dat.unnamed 2 t
    | ⟨3, _⟩ => Dat.unnamed 3 t
    | ⟨4, _⟩ => Dat.unnamed 4 t
    | ⟨5, _⟩ => Dat.unnamed 5 t
    | ⟨6, _⟩ => Dat.unnamed 6 t
    | ⟨7, _⟩ => Dat.unnamed 7 t
    | ⟨8, _⟩ => iblk m c 8 t
    | ⟨9, _⟩ => iblk m c 9 t
    | ⟨10, _⟩ => iblk m c 10 t
    | ⟨11, _⟩ => iblk m c 11 t
    | ⟨12, _⟩ => Dat.unnamed 12 t
    | ⟨13, _⟩ => k0_pay15 (iblk m c 8 t)
    | ⟨14, _⟩ => k0_pay16 (iblk m c 9 t)
    | ⟨15, _⟩ => k0_pay17 (iblk m c 10 t)
    | ⟨16, _⟩ => k0_pay18 (iblk m c 11 t)
    | ⟨_ + 17, h⟩ => absurd h (Nat.not_lt.2 (Nat.le_add_left 17 _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Pipeline.ΦA spec0 c := by
  dsimp only [dats]

/-- What the body leaves of the weights and the copies. -/
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = k0_pay15 (iblk m c 8 t) := by dsimp only [dats]
theorem after0_14 (c : Dev nD) (t : Fin cfg0.N) : (dats m 0 c).after 14 t = k0_pay16 (iblk m c 9 t) := by dsimp only [dats]
theorem after0_15 (c : Dev nD) (t : Fin cfg0.N) : (dats m 0 c).after 15 t = k0_pay17 (iblk m c 10 t) := by dsimp only [dats]
theorem after0_16 (c : Dev nD) (t : Fin cfg0.N) : (dats m 0 c).after 16 t = k0_pay18 (iblk m c 11 t) := by dsimp only [dats]

/-- A weight's buffer holds its block at every point. -/
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Every window's buffer as the body is handed it. -/
def given (c : Dev nD) (t : Fin cfg0.N) : sProp 𝕄 :=
  iprop((∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare ((dats (F := F) m 0 c).before 8 t d)) ∗ (∃ d, owns (c : Thread nD τ) (ms0_9 t) fullShare ((dats (F := F) m 0 c).before 9 t d)) ∗ (∃ d, owns (c : Thread nD τ) (ms0_10 t) fullShare ((dats (F := F) m 0 c).before 10 t d)) ∗ (∃ d, owns (c : Thread nD τ) (ms0_11 t) fullShare ((dats (F := F) m 0 c).before 11 t d)) ∗ (∃ d, owns (c : Thread nD τ) (ms0_12 t) fullShare d) ∗ (∃ d, owns (c : Thread nD τ) (ms0_13 t) fullShare ((dats (F := F) m 0 c).before 13 t d)) ∗ (∃ d, owns (c : Thread nD τ) (ms0_14 t) fullShare ((dats (F := F) m 0 c).before 14 t d)) ∗ (∃ d, owns (c : Thread nD τ) (ms0_15 t) fullShare ((dats (F := F) m 0 c).before 15 t d)) ∗ (∃ d, owns (c : Thread nD τ) (ms0_16 t) fullShare ((dats (F := F) m 0 c).before 16 t d)))

/-- Every window's buffer as the body leaves it. -/
def left (c : Dev nD) (t : Fin cfg0.N) : sProp 𝕄 :=
  iprop((∃ d, owns (c : Thread nD τ) (ms0_0 t) fullShare d) ∗ (∃ d, owns (c : Thread nD τ) (ms0_1 t) fullShare d) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ owns (c : Thread nD τ) (ms0_8 t) fullShare ((dats (F := F) m 0 c).after 8 t) ∗ owns (c : Thread nD τ) (ms0_9 t) fullShare ((dats (F := F) m 0 c).after 9 t) ∗ owns (c : Thread nD τ) (ms0_10 t) fullShare ((dats (F := F) m 0 c).after 10 t) ∗ owns (c : Thread nD τ) (ms0_11 t) fullShare ((dats (F := F) m 0 c).after 11 t) ∗ (∃ d, owns (c : Thread nD τ) (ms0_12 t) fullShare d) ∗ owns (c : Thread nD τ) (ms0_13 t) fullShare ((dats (F := F) m 0 c).after 13 t) ∗ owns (c : Thread nD τ) (ms0_14 t) fullShare ((dats (F := F) m 0 c).after 14 t) ∗ owns (c : Thread nD τ) (ms0_15 t) fullShare ((dats (F := F) m 0 c).after 15 t) ∗ owns (c : Thread nD τ) (ms0_16 t) fullShare ((dats (F := F) m 0 c).after 16 t))

/-! ## The body at a point -/

set_option maxHeartbeats 3200000 in
/-- From the invariant and every buffer, the body returns the invariant and every buffer. -/
theorem sound_body (c : Dev nD) (t : Fin cfg0.N) :
    iprop((dats m 0 c).Φ t.castSucc ∗ (dats m 0 c).owesAt () t.castSucc ∗ given (F := F) m c t)
      ⊢ wp frame (wpE (defs₀ (F := F)) Variants.none c none) Set.univ (bodyAt0 t)
          (fun _ => iprop((dats m 0 c).Φ t.succ ∗ (dats m 0 c).owesAt () t.succ ∗ left (F := F) m c t)) := by
  unfold given left bodyAt0
  simp only [before0_8, before0_9, before0_10, before0_11, after0_8, after0_9, after0_10, after0_11, after0_13, after0_14,
    after0_15, after0_16]
  rw [show (dats m 0 c).owesAt () t.succ = (dats m 0 c).owesAt () t.castSucc from rfl, Phi_eq, Phi_eq, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (mixerRun c (grid0.coords t) _ _ _ _ _ _ _ _ _ _ _ _ _ _ _ _ _ _ _ _ _ _ _ _ _ _ _ _ _ _ _ _ _ _ _ _ _ _ _ _ _ _ d0 d1 d2 d3 d4 d5 d6 d7 (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The obligation of every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch ends with the inputs' arrays as found, every other buffer as found, and every counter at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 1020000 in
/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r hh => ⟨fun c => by
      have h := hh.1
      exact ⟨(Pipeline.RDat.FramePost.arr_in h c 1 rfl).trans ((A_eq m c 1).trans (V_main_arg0 m c)),
        (Pipeline.RDat.FramePost.arr_in h c 2 rfl).trans ((A_eq m c 2).trans (V_main_arg1 m c)),
        ((h c).2 main_arg2 (Pipeline.mem_restRefs_of main_arg2 (by decide) (by decide))).trans (V_main_arg2 m c),
        ((h c).2 main_arg3 (Pipeline.mem_restRefs_of main_arg3 (by decide) (by decide))).trans (V_main_arg3 m c),
        ((h c).2 main_arg4 (Pipeline.mem_restRefs_of main_arg4 (by decide) (by decide))).trans (V_main_arg4 m c),
        ((h c).2 main_arg5 (Pipeline.mem_restRefs_of main_arg5 (by decide) (by decide))).trans (V_main_arg5 m c),
        ((h c).2 main_arg6 (Pipeline.mem_restRefs_of main_arg6 (by decide) (by decide))).trans (V_main_arg6 m c),
        ((h c).2 main_arg7 (Pipeline.mem_restRefs_of main_arg7 (by decide) (by decide))).trans (V_main_arg7 m c),
        ((h c).2 main_arg8 (Pipeline.mem_restRefs_of main_arg8 (by decide) (by decide))).trans (V_main_arg8 m c),
        ((h c).2 main_arg9 (Pipeline.mem_restRefs_of main_arg9 (by decide) (by decide))).trans (V_main_arg9 m c),
        ((h c).2 main_arg10 (Pipeline.mem_restRefs_of main_arg10 (by decide) (by decide))).trans (V_main_arg10 m c)⟩, hh.2⟩) (run_main_quiescent m ρ)

/-- The copies' arrays end at what the write-backs of the copies' blocks make of them. -/
theorem run_copies : θ_run defs (onTc (τ := τ) (main (F := F))) ⟨m, fun _ => 0, ρ⟩ (fun r => ∀ c : Dev nD,
      r.2.mem ((c.tc : Thread nD τ).loc main_v17_1) = (dats m 0 c).arrAt 13 cfg0.N
      ∧ r.2.mem ((c.tc : Thread nD τ).loc main_v17_2) = (dats m 0 c).arrAt 14 cfg0.N
      ∧ r.2.mem ((c.tc : Thread nD τ).loc main_v17_3) = (dats m 0 c).arrAt 15 cfg0.N
      ∧ r.2.mem ((c.tc : Thread nD τ).loc main_v17_4) = (dats m 0 c).arrAt 16 cfg0.N) :=
  (θ_run defs _ _).mono (fun r hh c => ⟨((dats m 0 c).toRForget_arrAt_iff (w := 13) rfl _ _).mp ((hh.1 c).1 13),
      ((dats m 0 c).toRForget_arrAt_iff (w := 14) rfl _ _).mp ((hh.1 c).1 14),
      ((dats m 0 c).toRForget_arrAt_iff (w := 15) rfl _ _).mp ((hh.1 c).1 15),
      ((dats m 0 c).toRForget_arrAt_iff (w := 16) rfl _ _).mp ((hh.1 c).1 16)⟩) (run_main_quiescent m ρ)

end Cert.MixerIdeal.Gen

end
-- ==== Proof.MixerCopies.lean ====
module

public import proofs.«01_k».proof.Proof.MixerFrame
public import Idealize.ShloMosaic.Lib.Pipeline.ReadBack
public import Idealize.ShloMosaic.Lib.Pointwise

@[expose] public section

set_option maxRecDepth 16384

noncomputable section

/-! The four weights' copies the SSD recurrence's call makes: their arrays at the end are the weights. -/

namespace Cert.MixerIdeal.Pay

open Cert.MixerIdeal Cert.MixerIdeal.Gen Idealize.ShloMosaic Idealize.ShloMosaic.TcCoe Idealize.SL.Sem
open Idealize.ShloMosaic.Pipeline (Dat)

local notation "Ideal" => Idealize.ShloMosaic.Ideal

variable (m : (ℓ : Loc nD τ sig) → Buf (Elt Ideal) ℓ) (c : Dev nD)

/-- The block of the last weight at point `n`: the last block once they are all copied. -/
def blkDown (n : ℕ) : ℕ := min n 43

/-- Where the weights' blocks lie at point `t`. -/
theorem idx : ∀ t : Fin cfg0.N, win0_8.index t = ![t.val, 0] ∧ win0_9.index t = ![t.val, 0] ∧ win0_10.index t = ![t.val, 0]
    ∧ win0_11.index t = ![blkDown t.val, 0] ∧ win0_13.index t = ![t.val, 0] ∧ win0_14.index t = ![t.val, 0] ∧ win0_15.index t = ![t.val, 0]
    ∧ win0_16.index t = ![blkDown t.val, 0] ∧ t.val < 64 ∧ blkDown t.val < 44 :=
  (by decide +kernel : ∀ t : Fin grid0.N, _)

/-! ## The weights when the call is entered -/

theorem V_v13 : V m c main_v13 = shapeCast S4096x2048 (m ((c : Thread nD τ).loc main_arg7) : FVec Ideal S1x4096x2048 .f32) shapeCasts_S1x4096x2048_S4096x2048 := by
  unfold V
  simp only [List.flatten_cons, List.flatten_nil, List.append_nil, List.cons_append, List.nil_append]
  entry_read
  rfl

theorem V_v14 : V m c main_v14 = shapeCast S2048x5632 (m ((c : Thread nD τ).loc main_arg8) : FVec Ideal S1x2048x5632 .f32) shapeCasts_S1x2048x5632_S2048x5632 := by
  unfold V
  simp only [List.flatten_cons, List.flatten_nil, List.append_nil, List.cons_append, List.nil_append]
  entry_read
  rfl

theorem V_v15 : V m c main_v15 = shapeCast S2048x5632 (m ((c : Thread nD τ).loc main_arg9) : FVec Ideal S1x2048x5632 .f32) shapeCasts_S1x2048x5632_S2048x5632 := by
  unfold V
  simp only [List.flatten_cons, List.flatten_nil, List.append_nil, List.cons_append, List.nil_append]
  entry_read
  rfl

theorem V_v16 : V m c main_v16 = shapeCast S5632x2048 (m ((c : Thread nD τ).loc main_arg10) : FVec Ideal S1x5632x2048 .f32) shapeCasts_S1x5632x2048_S5632x2048 := by
  unfold V
  simp only [List.flatten_cons, List.flatten_nil, List.append_nil, List.cons_append, List.nil_append]
  entry_read
  rfl

/-! ## `w_out` -/

theorem pay15_at (x : FVec Ideal S64x2048 .f32) (y : S64x2048.Idx) : k0_pay15 (F := Ideal) x y = x y := by
  idx_vars y
  pointwise [k0_pay15]

theorem cast_out (w : FVec Ideal S1x4096x2048 .f32) (y : S4096x2048.Idx) : shapeCast S4096x2048 w shapeCasts_S1x4096x2048_S4096x2048 y = w (ix3 0 (y 0) (y 1)) := by
  idx_vars y
  pointwise
  first | done | rfl | (congr 1; first | rfl | blk_ext)

/-- The row of the weight that row `r` of block `n` is. -/
def row_out (n : ℕ) (hn : n < 64) (r : Fin 64) : Fin 4096 := ⟨64 * n + r, by omega⟩

theorem blk_out (t : Fin cfg0.N) (hn : t.val < 64) (r : Fin 64) (k : Fin 2048) :
    (iblk m c 8 t : FVec Ideal S64x2048 .f32) (ix2 r k) = m ((c : Thread nD τ).loc main_arg7) (ix3 0 (row_out t.val hn r) k) := by
  blk_simp [iblk, idx t]
  change V m c main_v13 _ = _
  refine (congrFun (V_v13 m c) _).trans ((cast_out _ _).trans (congrArg _ ?_))
  blk_ext [idx t, row_out]

/-- The whole copy. -/
def copy_out (w : FVec Ideal S1x4096x2048 .f32) : FVec Ideal S4096x2048 .bf16 := fun y => w (ix3 0 (y 0) (y 1))

/-- The copy's array after the run. -/
theorem final_out : (dats m 0 c).arrAt 13 cfg0.N = copy_out (m ((c : Thread nD τ).loc main_arg7)) := by
  refine (dats m 0 c).arrAt_eq_of_covers 13 _ (by decide +kernel) fun t hf y => ?_
  have hn : t.val < 64 := (idx t).2.2.2.2.2.2.2.2.1
  blk_simp
  rw [after0_13]
  have e := blk_out m c t hn (y 0) (y 1)
  rw [← eq_ix2 y] at e
  refine ((pay15_at _ y).trans e).trans (congrArg (copy_out _) (a₁ := ix2 (row_out t.val hn (y 0)) (y 1)) ?_)
  blk_ext [row_out, idx t]

/-! ## `w_gate` -/

theorem pay16_at (x : FVec Ideal S32x5632 .f32) (y : S32x5632.Idx) : k0_pay16 (F := Ideal) x y = x y := by
  idx_vars y
  pointwise [k0_pay16]

theorem cast_gate (w : FVec Ideal S1x2048x5632 .f32) (y : S2048x5632.Idx) : shapeCast S2048x5632 w shapeCasts_S1x2048x5632_S2048x5632 y = w (ix3 0 (y 0) (y 1)) := by
  idx_vars y
  pointwise
  first | done | rfl | (congr 1; first | rfl | blk_ext)

/-- The row of the weight that row `r` of block `n` is. -/
def row_gate (n : ℕ) (hn : n < 64) (r : Fin 32) : Fin 2048 := ⟨32 * n + r, by omega⟩

theorem blk_gate (t : Fin cfg0.N) (hn : t.val < 64) (r : Fin 32) (k : Fin 5632) :
    (iblk m c 9 t : FVec Ideal S32x5632 .f32) (ix2 r k) = m ((c : Thread nD τ).loc main_arg8) (ix3 0 (row_gate t.val hn r) k) := by
  blk_simp [iblk, idx t]
  change V m c main_v14 _ = _
  refine (congrFun (V_v14 m c) _).trans ((cast_gate _ _).trans (congrArg _ ?_))
  blk_ext [idx t, row_gate]

/-- The whole copy. -/
def copy_gate (w : FVec Ideal S1x2048x5632 .f32) : FVec Ideal S2048x5632 .bf16 := fun y => w (ix3 0 (y 0) (y 1))

/-- The copy's array after the run. -/
theorem final_gate : (dats m 0 c).arrAt 14 cfg0.N = copy_gate (m ((c : Thread nD τ).loc main_arg8)) := by
  refine (dats m 0 c).arrAt_eq_of_covers 14 _ (by decide +kernel) fun t hf y => ?_
  have hn : t.val < 64 := (idx t).2.2.2.2.2.2.2.2.1
  blk_simp
  rw [after0_14]
  have e := blk_gate m c t hn (y 0) (y 1)
  rw [← eq_ix2 y] at e
  refine ((pay16_at _ y).trans e).trans (congrArg (copy_gate _) (a₁ := ix2 (row_gate t.val hn (y 0)) (y 1)) ?_)
  blk_ext [row_gate, idx t]

/-! ## `w_up` -/

theorem pay17_at (x : FVec Ideal S32x5632 .f32) (y : S32x5632.Idx) : k0_pay17 (F := Ideal) x y = x y := by
  idx_vars y
  pointwise [k0_pay17]

theorem cast_up (w : FVec Ideal S1x2048x5632 .f32) (y : S2048x5632.Idx) : shapeCast S2048x5632 w shapeCasts_S1x2048x5632_S2048x5632 y = w (ix3 0 (y 0) (y 1)) := by
  idx_vars y
  pointwise
  first | done | rfl | (congr 1; first | rfl | blk_ext)

/-- The row of the weight that row `r` of block `n` is. -/
def row_up (n : ℕ) (hn : n < 64) (r : Fin 32) : Fin 2048 := ⟨32 * n + r, by omega⟩

theorem blk_up (t : Fin cfg0.N) (hn : t.val < 64) (r : Fin 32) (k : Fin 5632) :
    (iblk m c 10 t : FVec Ideal S32x5632 .f32) (ix2 r k) = m ((c : Thread nD τ).loc main_arg9) (ix3 0 (row_up t.val hn r) k) := by
  blk_simp [iblk, idx t]
  change V m c main_v15 _ = _
  refine (congrFun (V_v15 m c) _).trans ((cast_up _ _).trans (congrArg _ ?_))
  blk_ext [idx t, row_up]

/-- The whole copy. -/
def copy_up (w : FVec Ideal S1x2048x5632 .f32) : FVec Ideal S2048x5632 .bf16 := fun y => w (ix3 0 (y 0) (y 1))

/-- The copy's array after the run. -/
theorem final_up : (dats m 0 c).arrAt 15 cfg0.N = copy_up (m ((c : Thread nD τ).loc main_arg9)) := by
  refine (dats m 0 c).arrAt_eq_of_covers 15 _ (by decide +kernel) fun t hf y => ?_
  have hn : t.val < 64 := (idx t).2.2.2.2.2.2.2.2.1
  blk_simp
  rw [after0_15]
  have e := blk_up m c t hn (y 0) (y 1)
  rw [← eq_ix2 y] at e
  refine ((pay17_at _ y).trans e).trans (congrArg (copy_up _) (a₁ := ix2 (row_up t.val hn (y 0)) (y 1)) ?_)
  blk_ext [row_up, idx t]

/-! ## `w_down` -/

theorem pay18_at (x : FVec Ideal S128x2048 .f32) (y : S128x2048.Idx) : k0_pay18 (F := Ideal) x y = x y := by
  idx_vars y
  pointwise [k0_pay18]

theorem cast_down (w : FVec Ideal S1x5632x2048 .f32) (y : S5632x2048.Idx) : shapeCast S5632x2048 w shapeCasts_S1x5632x2048_S5632x2048 y = w (ix3 0 (y 0) (y 1)) := by
  idx_vars y
  pointwise
  first | done | rfl | (congr 1; first | rfl | blk_ext)

/-- The row of the weight that row `r` of block `n` is. -/
def row_down (n : ℕ) (hn : n < 44) (r : Fin 128) : Fin 5632 := ⟨128 * n + r, by omega⟩

theorem blk_down (t : Fin cfg0.N) (hn : (blkDown t.val) < 44) (r : Fin 128) (k : Fin 2048) :
    (iblk m c 11 t : FVec Ideal S128x2048 .f32) (ix2 r k) = m ((c : Thread nD τ).loc main_arg10) (ix3 0 (row_down (blkDown t.val) hn r) k) := by
  blk_simp [iblk, idx t]
  change V m c main_v16 _ = _
  refine (congrFun (V_v16 m c) _).trans ((cast_down _ _).trans (congrArg _ ?_))
  blk_ext [idx t, row_down]

/-- The whole copy. -/
def copy_down (w : FVec Ideal S1x5632x2048 .f32) : FVec Ideal S5632x2048 .bf16 := fun y => w (ix3 0 (y 0) (y 1))

/-- The copy's array after the run. -/
theorem final_down : (dats m 0 c).arrAt 16 cfg0.N = copy_down (m ((c : Thread nD τ).loc main_arg10)) := by
  refine (dats m 0 c).arrAt_eq_of_covers 16 _ (by decide +kernel) fun t hf y => ?_
  have hn : (blkDown t.val) < 44 := (idx t).2.2.2.2.2.2.2.2.2
  blk_simp
  rw [after0_16]
  have e := blk_down m c t hn (y 0) (y 1)
  rw [← eq_ix2 y] at e
  refine ((pay18_at _ y).trans e).trans (congrArg (copy_down _) (a₁ := ix2 (row_down (blkDown t.val) hn (y 0)) (y 1)) ?_)
  blk_ext [row_down, idx t]

end Cert.MixerIdeal.Pay

end
-- ==== Proof.MixerClaims.lean ====
/- What is claimed of the SSD recurrence's call: both frames, from the one run, and that its four copies of the weights are exact. -/
module

public import proofs.«01_k».proof.Defs
public import proofs.«01_k».proof.Proof.Gen.Mixer
public import proofs.«01_k».proof.Proof.MixerCopies

@[expose] public section

set_option maxRecDepth 65536

noncomputable section

namespace Cert.Proof.Mixer

open Idealize.ShloMosaic Idealize.SL.Sem

/-- At the machine's words the two programs' definitions are the same text. -/
theorem defs_eq : Cert.Mixer.defs (F := Bits) = Cert.MixerIdeal.defs (F := Bits) := by
  sl_kernel_rfl

set_option maxHeartbeats 4000000 in
theorem frame_p : Cert.quiescent_Mixer := by
  intro m ρ _
  have h := Cert.MixerIdeal.Gen.frame (F := Bits) m ρ
  rw [← defs_eq] at h
  exact h
theorem frame_i : Cert.quiescent_MixerIdeal := fun m ρ _ => Cert.MixerIdeal.Gen.frame m ρ

/-- The shapes the test's operations join agree. -/
theorem post_facts : Cert.Post_copies_exact.Facts :=
  ⟨Cert.MixerIdeal.Gen.facts.shapeCasts_S1x4096x2048_S4096x2048, by decide, Cert.MixerIdeal.Gen.facts.shapeCasts_S1x2048x5632_S2048x5632,
    Cert.MixerIdeal.Gen.facts.shapeCasts_S1x5632x2048_S5632x2048⟩

/-- Equal arrays test equal everywhere. -/
theorem oeq_self {s : Shape} (x y : FVec Ideal s .bf16) (h : x = y) : cmpf .oeq x y = fun _ => 1#1 := by
  subst h
  funext i
  change Ideal.cmp .oeq (x i) (x i) = 1#1
  simp [Ideal.cmp]

open Cert.MixerIdeal Cert.MixerIdeal.Pay in
/-- The call's last four results are the four weights cast to bf16. -/
theorem copies [hPost_copies_exact : Cert.Post_copies_exact.Facts] : Cert.holds_MixerIdeal_copies_exact := by
  intro m ρ _
  refine (θ_run _ _ _).mono (fun r h c => ?_) (θ_run_and (Cert.MixerIdeal.Gen.frame m ρ) (Cert.MixerIdeal.Gen.run_copies m ρ))
  obtain ⟨h0, h1, h2, h3, h4, h5, h6, h7, h8, h9, h10⟩ := h.1.1 c
  obtain ⟨c1, c2, c3, c4⟩ := h.2 c
  refine ⟨h0, h1, h2, h3, h4, h5, h6, h7, h8, h9, h10, ?_, ?_, ?_, ?_⟩
  · refine oeq_self _ _ ((c1.trans (final_out m c)).trans (funext fun y => ?_))
    exact (cast_out _ y).symm
  · refine oeq_self _ _ ((c2.trans (final_gate m c)).trans (funext fun y => ?_))
    exact (cast_gate _ y).symm
  · refine oeq_self _ _ ((c3.trans (final_up m c)).trans (funext fun y => ?_))
    exact (cast_up _ y).symm
  · refine oeq_self _ _ ((c4.trans (final_down m c)).trans (funext fun y => ?_))
    exact (cast_down _ y).symm

end Cert.Proof.Mixer

end
-- ==== Proof.lean ====
/- The claims, each from the module that proves it. -/
module

public import proofs.«01_k».proof.Defs
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.Pre_finite_out
public import proofs.«01_k».proof.Proof.Gen.Pre_finite_ffn
public import proofs.«01_k».proof.Proof.PrepValue
public import proofs.«01_k».proof.Proof.InValue
public import proofs.«01_k».proof.Proof.OutValue
public import proofs.«01_k».proof.Proof.FfnValue
public import proofs.«01_k».proof.Proof.MixerClaims
public import Idealize.ShloMosaic.Adequacy
public import Idealize.ShloMosaic.Init

@[expose] public section

noncomputable section

namespace Cert.Proof

open Idealize.ShloMosaic Idealize.SL.Sem

theorem claim : Cert.Claim := ⟨Cert.Prep.Gen.facts, Cert.PrepIdeal.Gen.facts, Cert.PrepRefIdeal.Gen.facts, Cert.InProj.Gen.facts, Cert.InProjIdeal.Gen.facts, Cert.InRefIdeal.Gen.facts, Cert.OutProj.Gen.facts, Cert.OutProjIdeal.Gen.facts, Cert.OutRefIdeal.Gen.facts, Cert.Ffn.Gen.facts, Cert.FfnIdeal.Gen.facts, Cert.FfnRefIdeal.Gen.facts, Cert.Mixer.Gen.facts, Cert.MixerIdeal.Gen.facts, Cert.Pre_finite_out.Gen.facts, Cert.Pre_finite_ffn.Gen.facts, Cert.Proof.Mixer.post_facts, Cert.PrepIdeal.Pay.frame_p, Cert.PrepIdeal.Pay.frame_i, Cert.PrepIdeal.Pay.frame_r, Cert.InProjIdeal.Pay.frame_p, Cert.InProjIdeal.Pay.frame_i, Cert.InProjIdeal.Pay.frame_r, Cert.OutProjIdeal.Pay.frame_p, Cert.OutProjIdeal.Pay.frame_i, Cert.OutProjIdeal.Pay.frame_ip, Cert.OutProjIdeal.Pay.frame_r, Cert.OutProjIdeal.Pay.frame_rp, Cert.FfnIdeal.Pay.frame_p, Cert.FfnIdeal.Pay.frame_i, Cert.FfnIdeal.Pay.frame_ip, Cert.FfnIdeal.Pay.frame_r, Cert.FfnIdeal.Pay.frame_rp, Cert.Proof.Mixer.frame_p, Cert.Proof.Mixer.frame_i, trivial, Cert.PrepIdeal.Pay.algebraic, trivial, Cert.InProjIdeal.Pay.algebraic, trivial, Cert.OutProjIdeal.Pay.algebraic, trivial, Cert.FfnIdeal.Pay.algebraic, trivial, Cert.Proof.Mixer.copies (hPost_copies_exact := Cert.Proof.Mixer.post_facts)⟩

end Cert.Proof

end
